-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1, 1024]⟩ ⟨2, ![1, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1, 1024]⟩ ⟨2, ![1, 8192]⟩ 1 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![2048, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x1024 .f32) (main_arg1 : FVec F S1x1024 .f32) (main_arg2 : FVec F S1x1024 .f32) : IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  main_v2
-- ==== Pre_x_finite_ReferenceIdeal.lean ====
abbrev S2048x8192 : Shape := ⟨2, ![2048, 8192]⟩
abbrev S1x8192 : Shape := ⟨2, ![1, 8192]⟩
abbrev S_ : Shape := ⟨0, ![]⟩

class Facts : Prop where
  bcast_S_S2048x8192 : S_.BroadcastsInDim S2048x8192 (![] : Fin 0 → Fin S2048x8192.rank)

variable [Facts]

def fn {F : FTy → Type} [FloatOps F] (main_arg0 : FVec F S2048x8192 .f32) (main_arg1 : FVec F S1x8192 .f32) (main_arg2 : FVec F S1x8192 .f32) : IVec S2048x8192 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  main_v2
-- ==== Kernel.lean ====
abbrev S2048x1024 : Shape := ⟨2, ![2048, 1024]⟩
abbrev S1x1024 : Shape := ⟨2, ![1, 1024]⟩
abbrev S4x512x1024 : Shape := ⟨3, ![4, 512, 1024]⟩
abbrev S4x2x512 : Shape := ⟨3, ![4, 2, 512]⟩
abbrev S4x7x2x512 : Shape := ⟨4, ![4, 7, 2, 512]⟩
abbrev S4 : Shape := ⟨1, ![4]⟩
abbrev S2 : Shape := ⟨1, ![2]⟩
abbrev S4x7 : Shape := ⟨2, ![4, 7]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S512 : Shape := ⟨1, ![512]⟩
abbrev S1x1x512 : Shape := ⟨3, ![1, 1, 512]⟩
abbrev S1x1 : Shape := ⟨2, ![1, 1]⟩
abbrev S1x1x2x512 : Shape := ⟨4, ![1, 1, 2, 512]⟩
abbrev S2x512 : Shape := ⟨2, ![2, 512]⟩
abbrev S1x2x512 : Shape := ⟨3, ![1, 2, 512]⟩
abbrev S1x512 : Shape := ⟨2, ![1, 512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .local _ .vmem, ⟨0, _⟩ => ⟨S4x512x1024, .f32⟩
  | .local _ .vmem, ⟨1, _⟩ => ⟨S4x512x1024, .f32⟩
  | .local _ .vmem, ⟨2, _⟩ => ⟨S1x1024, .f32⟩
  | .local _ .vmem, ⟨3, _⟩ => ⟨S1x1024, .f32⟩
  | .local _ .vmem, ⟨4, _⟩ => ⟨S4x2x512, .f32⟩
  | .local _ .vmem, ⟨5, _⟩ => ⟨S4x7x2x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v28 : BitVec 32 := Scalar.addi v2 c1_i32_20
  let c8_i32_21 : BitVec 32 := 8#32
  let v29 : BitVec 32 := Scalar.remsi v28 c8_i32_21
  let c1_i32_23 : BitVec 32 := 1#32
  let v30 : BitVec 32 := Scalar.muli v29 c1_i32_23
  let v31 : BitVec 32 := Scalar.addi c0_i32_24 v30
  v31.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_25 : BitVec 32 := 2#32
  let v32 : BitVec 32 := Scalar.addi v2 c2_i32_25
  let c8_i32_26 : BitVec 32 := 8#32
  let v33 : BitVec 32 := Scalar.remsi v32 c8_i32_26
  let c1_i32_28 : BitVec 32 := 1#32
  let v34 : BitVec 32 := Scalar.muli v33 c1_i32_28
  let v35 : BitVec 32 := Scalar.addi c0_i32_29 v34
  v35.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_30 : BitVec 32 := 3#32
  let v36 : BitVec 32 := Scalar.addi v2 c3_i32_30
  let c8_i32_31 : BitVec 32 := 8#32
  let v37 : BitVec 32 := Scalar.remsi v36 c8_i32_31
  let c1_i32_33 : BitVec 32 := 1#32
  let v38 : BitVec 32 := Scalar.muli v37 c1_i32_33
  let v39 : BitVec 32 := Scalar.addi c0_i32_34 v38
  v39.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v40 : BitVec 32 := Scalar.addi v2 c4_i32
  let c8_i32_35 : BitVec 32 := 8#32
  let v41 : BitVec 32 := Scalar.remsi v40 c8_i32_35
  let c1_i32_37 : BitVec 32 := 1#32
  let v42 : BitVec 32 := Scalar.muli v41 c1_i32_37
  let v43 : BitVec 32 := Scalar.addi c0_i32_38 v42
  v43.toNat
def k0_dev5 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v44 : BitVec 32 := Scalar.addi v2 c5_i32
  let c8_i32_39 : BitVec 32 := 8#32
  let v45 : BitVec 32 := Scalar.remsi v44 c8_i32_39
  let c1_i32_41 : BitVec 32 := 1#32
  let v46 : BitVec 32 := Scalar.muli v45 c1_i32_41
  let v47 : BitVec 32 := Scalar.addi c0_i32_42 v46
  v47.toNat
def k0_dev6 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v48 : BitVec 32 := Scalar.addi v2 c6_i32
  let c8_i32_43 : BitVec 32 := 8#32
  let v49 : BitVec 32 := Scalar.remsi v48 c8_i32_43
  let c1_i32_45 : BitVec 32 := 1#32
  let v50 : BitVec 32 := Scalar.muli v49 c1_i32_45
  let v51 : BitVec 32 := Scalar.addi c0_i32_46 v50
  v51.toNat
def k0_dev7 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v52 : BitVec 32 := Scalar.addi v2 c7_i32
  let c8_i32_47 : BitVec 32 := 8#32
  let v53 : BitVec 32 := Scalar.remsi v52 c8_i32_47
  let c1_i32_49 : BitVec 32 := 1#32
  let v54 : BitVec 32 := Scalar.muli v53 c1_i32_49
  let v55 : BitVec 32 := Scalar.addi c0_i32_50 v54
  v55.toNat
def k0_dev8 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_66 : BitVec 32 := 1#32
  let v72 : BitVec 32 := Scalar.addi v2 c1_i32_66
  let c8_i32_67 : BitVec 32 := 8#32
  let v73 : BitVec 32 := Scalar.remsi v72 c8_i32_67
  let c1_i32_75 : BitVec 32 := 1#32
  let v74 : BitVec 32 := Scalar.muli v73 c1_i32_75
  let v75 : BitVec 32 := Scalar.addi c0_i32_76 v74
  v75.toNat
def k0_dev9 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_81 : BitVec 32 := 2#32
  let v84 : BitVec 32 := Scalar.addi v2 c2_i32_81
  let c8_i32_82 : BitVec 32 := 8#32
  let v85 : BitVec 32 := Scalar.remsi v84 c8_i32_82
  let c1_i32_90 : BitVec 32 := 1#32
  let v86 : BitVec 32 := Scalar.muli v85 c1_i32_90
  let v87 : BitVec 32 := Scalar.addi c0_i32_91 v86
  v87.toNat
def k0_dev10 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_96 : BitVec 32 := 3#32
  let v96 : BitVec 32 := Scalar.addi v2 c3_i32_96
  let c8_i32_97 : BitVec 32 := 8#32
  let v97 : BitVec 32 := Scalar.remsi v96 c8_i32_97
  let c1_i32_105 : BitVec 32 := 1#32
  let v98 : BitVec 32 := Scalar.muli v97 c1_i32_105
  let v99 : BitVec 32 := Scalar.addi c0_i32_106 v98
  v99.toNat
def k0_dev11 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_111 : BitVec 32 := 4#32
  let v108 : BitVec 32 := Scalar.addi v2 c4_i32_111
  let c8_i32_112 : BitVec 32 := 8#32
  let v109 : BitVec 32 := Scalar.remsi v108 c8_i32_112
  let c1_i32_120 : BitVec 32 := 1#32
  let v110 : BitVec 32 := Scalar.muli v109 c1_i32_120
  let v111 : BitVec 32 := Scalar.addi c0_i32_121 v110
  v111.toNat
def k0_dev12 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_126 : BitVec 32 := 5#32
  let v120 : BitVec 32 := Scalar.addi v2 c5_i32_126
  let c8_i32_127 : BitVec 32 := 8#32
  let v121 : BitVec 32 := Scalar.remsi v120 c8_i32_127
  let c1_i32_135 : BitVec 32 := 1#32
  let v122 : BitVec 32 := Scalar.muli v121 c1_i32_135
  let v123 : BitVec 32 := Scalar.addi c0_i32_136 v122
  v123.toNat
def k0_dev13 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_141 : BitVec 32 := 6#32
  let v132 : BitVec 32 := Scalar.addi v2 c6_i32_141
  let c8_i32_142 : BitVec 32 := 8#32
  let v133 : BitVec 32 := Scalar.remsi v132 c8_i32_142
  let c1_i32_150 : BitVec 32 := 1#32
  let v134 : BitVec 32 := Scalar.muli v133 c1_i32_150
  let v135 : BitVec 32 := Scalar.addi c0_i32_151 v134
  v135.toNat
def k0_dev14 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_156 : BitVec 32 := 7#32
  let v144 : BitVec 32 := Scalar.addi v2 c7_i32_156
  let c8_i32_157 : BitVec 32 := 8#32
  let v145 : BitVec 32 := Scalar.remsi v144 c8_i32_157
  let c1_i32_165 : BitVec 32 := 1#32
  let v146 : BitVec 32 := Scalar.muli v145 c1_i32_165
  let v147 : BitVec 32 := Scalar.addi c0_i32_166 v146
  v147.toNat
def k0_dev15 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_188 : BitVec 32 := 1#32
  let v172 : BitVec 32 := Scalar.addi v2 c1_i32_188
  let c8_i32_189 : BitVec 32 := 8#32
  let v173 : BitVec 32 := Scalar.remsi v172 c8_i32_189
  let c1_i32_197 : BitVec 32 := 1#32
  let v174 : BitVec 32 := Scalar.muli v173 c1_i32_197
  let v175 : BitVec 32 := Scalar.addi c0_i32_198 v174
  v175.toNat
def k0_dev16 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_203 : BitVec 32 := 2#32
  let v184 : BitVec 32 := Scalar.addi v2 c2_i32_203
  let c8_i32_204 : BitVec 32 := 8#32
  let v185 : BitVec 32 := Scalar.remsi v184 c8_i32_204
  let c1_i32_212 : BitVec 32 := 1#32
  let v186 : BitVec 32 := Scalar.muli v185 c1_i32_212
  let v187 : BitVec 32 := Scalar.addi c0_i32_213 v186
  v187.toNat
def k0_dev17 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_218 : BitVec 32 := 3#32
  let v196 : BitVec 32 := Scalar.addi v2 c3_i32_218
  let c8_i32_219 : BitVec 32 := 8#32
  let v197 : BitVec 32 := Scalar.remsi v196 c8_i32_219
  let c1_i32_227 : BitVec 32 := 1#32
  let v198 : BitVec 32 := Scalar.muli v197 c1_i32_227
  let v199 : BitVec 32 := Scalar.addi c0_i32_228 v198
  v199.toNat
def k0_dev18 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_233 : BitVec 32 := 4#32
  let v208 : BitVec 32 := Scalar.addi v2 c4_i32_233
  let c8_i32_234 : BitVec 32 := 8#32
  let v209 : BitVec 32 := Scalar.remsi v208 c8_i32_234
  let c1_i32_242 : BitVec 32 := 1#32
  let v210 : BitVec 32 := Scalar.muli v209 c1_i32_242
  let v211 : BitVec 32 := Scalar.addi c0_i32_243 v210
  v211.toNat
def k0_dev19 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_248 : BitVec 32 := 5#32
  let v220 : BitVec 32 := Scalar.addi v2 c5_i32_248
  let c8_i32_249 : BitVec 32 := 8#32
  let v221 : BitVec 32 := Scalar.remsi v220 c8_i32_249
  let c1_i32_257 : BitVec 32 := 1#32
  let v222 : BitVec 32 := Scalar.muli v221 c1_i32_257
  let v223 : BitVec 32 := Scalar.addi c0_i32_258 v222
  v223.toNat
def k0_dev20 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_263 : BitVec 32 := 6#32
  let v232 : BitVec 32 := Scalar.addi v2 c6_i32_263
  let c8_i32_264 : BitVec 32 := 8#32
  let v233 : BitVec 32 := Scalar.remsi v232 c8_i32_264
  let c1_i32_272 : BitVec 32 := 1#32
  let v234 : BitVec 32 := Scalar.muli v233 c1_i32_272
  let v235 : BitVec 32 := Scalar.addi c0_i32_273 v234
  v235.toNat
def k0_dev21 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_278 : BitVec 32 := 7#32
  let v244 : BitVec 32 := Scalar.addi v2 c7_i32_278
  let c8_i32_279 : BitVec 32 := 8#32
  let v245 : BitVec 32 := Scalar.remsi v244 c8_i32_279
  let c1_i32_287 : BitVec 32 := 1#32
  let v246 : BitVec 32 := Scalar.muli v245 c1_i32_287
  let v247 : BitVec 32 := Scalar.addi c0_i32_288 v246
  v247.toNat
def k0_dev22 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_309 : BitVec 32 := 1#32
  let v272 : BitVec 32 := Scalar.addi v2 c1_i32_309
  let c8_i32_310 : BitVec 32 := 8#32
  let v273 : BitVec 32 := Scalar.remsi v272 c8_i32_310
  let c1_i32_318 : BitVec 32 := 1#32
  let v274 : BitVec 32 := Scalar.muli v273 c1_i32_318
  let v275 : BitVec 32 := Scalar.addi c0_i32_319 v274
  v275.toNat
def k0_dev23 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_324 : BitVec 32 := 2#32
  let v284 : BitVec 32 := Scalar.addi v2 c2_i32_324
  let c8_i32_325 : BitVec 32 := 8#32
  let v285 : BitVec 32 := Scalar.remsi v284 c8_i32_325
  let c1_i32_333 : BitVec 32 := 1#32
  let v286 : BitVec 32 := Scalar.muli v285 c1_i32_333
  let v287 : BitVec 32 := Scalar.addi c0_i32_334 v286
  v287.toNat
def k0_dev24 (d0 : Dev nD) : Nat :=
  let c0_i32_349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_339 : BitVec 32 := 3#32
  let v296 : BitVec 32 := Scalar.addi v2 c3_i32_339
  let c8_i32_340 : BitVec 32 := 8#32
  let v297 : BitVec 32 := Scalar.remsi v296 c8_i32_340
  let c1_i32_348 : BitVec 32 := 1#32
  let v298 : BitVec 32 := Scalar.muli v297 c1_i32_348
  let v299 : BitVec 32 := Scalar.addi c0_i32_349 v298
  v299.toNat
def k0_dev25 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_354 : BitVec 32 := 4#32
  let v308 : BitVec 32 := Scalar.addi v2 c4_i32_354
  let c8_i32_355 : BitVec 32 := 8#32
  let v309 : BitVec 32 := Scalar.remsi v308 c8_i32_355
  let c1_i32_363 : BitVec 32 := 1#32
  let v310 : BitVec 32 := Scalar.muli v309 c1_i32_363
  let v311 : BitVec 32 := Scalar.addi c0_i32_364 v310
  v311.toNat
def k0_dev26 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_369 : BitVec 32 := 5#32
  let v320 : BitVec 32 := Scalar.addi v2 c5_i32_369
  let c8_i32_370 : BitVec 32 := 8#32
  let v321 : BitVec 32 := Scalar.remsi v320 c8_i32_370
  let c1_i32_378 : BitVec 32 := 1#32
  let v322 : BitVec 32 := Scalar.muli v321 c1_i32_378
  let v323 : BitVec 32 := Scalar.addi c0_i32_379 v322
  v323.toNat
def k0_dev27 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_384 : BitVec 32 := 6#32
  let v332 : BitVec 32 := Scalar.addi v2 c6_i32_384
  let c8_i32_385 : BitVec 32 := 8#32
  let v333 : BitVec 32 := Scalar.remsi v332 c8_i32_385
  let c1_i32_393 : BitVec 32 := 1#32
  let v334 : BitVec 32 := Scalar.muli v333 c1_i32_393
  let v335 : BitVec 32 := Scalar.addi c0_i32_394 v334
  v335.toNat
def k0_dev28 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_399 : BitVec 32 := 7#32
  let v344 : BitVec 32 := Scalar.addi v2 c7_i32_399
  let c8_i32_400 : BitVec 32 := 8#32
  let v345 : BitVec 32 := Scalar.remsi v344 c8_i32_400
  let c1_i32_408 : BitVec 32 := 1#32
  let v346 : BitVec 32 := Scalar.muli v345 c1_i32_408
  let v347 : BitVec 32 := Scalar.addi c0_i32_409 v346
  v347.toNat
def k0_dev29 (d0 : Dev nD) : Nat :=
  let c0_i32_440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_430 : BitVec 32 := 1#32
  let v372 : BitVec 32 := Scalar.addi v2 c1_i32_430
  let c8_i32_431 : BitVec 32 := 8#32
  let v373 : BitVec 32 := Scalar.remsi v372 c8_i32_431
  let c1_i32_439 : BitVec 32 := 1#32
  let v374 : BitVec 32 := Scalar.muli v373 c1_i32_439
  let v375 : BitVec 32 := Scalar.addi c0_i32_440 v374
  v375.toNat
def k0_dev30 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_445 : BitVec 32 := 2#32
  let v384 : BitVec 32 := Scalar.addi v2 c2_i32_445
  let c8_i32_446 : BitVec 32 := 8#32
  let v385 : BitVec 32 := Scalar.remsi v384 c8_i32_446
  let c1_i32_454 : BitVec 32 := 1#32
  let v386 : BitVec 32 := Scalar.muli v385 c1_i32_454
  let v387 : BitVec 32 := Scalar.addi c0_i32_455 v386
  v387.toNat
def k0_dev31 (d0 : Dev nD) : Nat :=
  let c0_i32_470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_460 : BitVec 32 := 3#32
  let v396 : BitVec 32 := Scalar.addi v2 c3_i32_460
  let c8_i32_461 : BitVec 32 := 8#32
  let v397 : BitVec 32 := Scalar.remsi v396 c8_i32_461
  let c1_i32_469 : BitVec 32 := 1#32
  let v398 : BitVec 32 := Scalar.muli v397 c1_i32_469
  let v399 : BitVec 32 := Scalar.addi c0_i32_470 v398
  v399.toNat
def k0_dev32 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_475 : BitVec 32 := 4#32
  let v408 : BitVec 32 := Scalar.addi v2 c4_i32_475
  let c8_i32_476 : BitVec 32 := 8#32
  let v409 : BitVec 32 := Scalar.remsi v408 c8_i32_476
  let c1_i32_484 : BitVec 32 := 1#32
  let v410 : BitVec 32 := Scalar.muli v409 c1_i32_484
  let v411 : BitVec 32 := Scalar.addi c0_i32_485 v410
  v411.toNat
def k0_dev33 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_490 : BitVec 32 := 5#32
  let v420 : BitVec 32 := Scalar.addi v2 c5_i32_490
  let c8_i32_491 : BitVec 32 := 8#32
  let v421 : BitVec 32 := Scalar.remsi v420 c8_i32_491
  let c1_i32_499 : BitVec 32 := 1#32
  let v422 : BitVec 32 := Scalar.muli v421 c1_i32_499
  let v423 : BitVec 32 := Scalar.addi c0_i32_500 v422
  v423.toNat
def k0_dev34 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_505 : BitVec 32 := 6#32
  let v432 : BitVec 32 := Scalar.addi v2 c6_i32_505
  let c8_i32_506 : BitVec 32 := 8#32
  let v433 : BitVec 32 := Scalar.remsi v432 c8_i32_506
  let c1_i32_514 : BitVec 32 := 1#32
  let v434 : BitVec 32 := Scalar.muli v433 c1_i32_514
  let v435 : BitVec 32 := Scalar.addi c0_i32_515 v434
  v435.toNat
def k0_dev35 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_520 : BitVec 32 := 7#32
  let v444 : BitVec 32 := Scalar.addi v2 c7_i32_520
  let c8_i32_521 : BitVec 32 := 8#32
  let v445 : BitVec 32 := Scalar.remsi v444 c8_i32_521
  let c1_i32_529 : BitVec 32 := 1#32
  let v446 : BitVec 32 := Scalar.muli v445 c1_i32_529
  let v447 : BitVec 32 := Scalar.addi c0_i32_530 v446
  v447.toNat
-- ==== ReferenceIdeal.lean ====
abbrev S2048x8192 : Shape := ⟨2, ![2048, 8192]⟩
abbrev S1x8192 : Shape := ⟨2, ![1, 8192]⟩
abbrev S_ : Shape := ⟨0, ![]⟩
abbrev S2048 : Shape := ⟨1, ![2048]⟩
abbrev S2048x1 : Shape := ⟨2, ![2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S1x8192, .f32⟩
  | .hbm, ⟨2, _⟩ => ⟨S1x8192, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .i32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x8192, .f32⟩
  | .hbm, ⟨17, _⟩ => ⟨S2048x8192, .f32⟩
  | .hbm, ⟨18, _⟩ => ⟨S2048x8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x8192, .f32⟩
  | .hbm, ⟨34, _⟩ => ⟨S2048x8192, .f32⟩
  | .hbm, ⟨35, _⟩ => ⟨S2048x8192, .f32⟩
  | .hbm, ⟨36, _⟩ => ⟨S2048x8192, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S2048x8192, .f32⟩
  | .hbm, ⟨42, _⟩ => ⟨S2048x8192, .f32⟩
  | .hbm, ⟨43, _⟩ => ⟨S2048x8192, .f32⟩
  | .hbm, ⟨44, _⟩ => ⟨S2048x8192, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩

abbrev nD : Nat := 1
abbrev τ : Topo := Topo.v7x

variable {F : FTy → Type} [FloatOps F]
-- ==== Proof.KernelIdealProgram.lean ====
/-
# The kernel as a short program

The printed body is one straight line of some two hundred operations. It is the same few steps at each of the four
row groups `q` and each of the seven peers `j`, so it is written here once, with `q` and `j` as arguments, and shown
equal to the printed body.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen
open Idealize.ShloMosaic Idealize.ShloMosaic.TcCoe
open Idealize.SL Idealize.SL.Sem

variable {F : FTy → Type} [FloatOps F]

/-! ## Rectangles -/

/-- The rows of a row group lie within the 2048 rows. -/
theorem inb_row (q : Fin 4) : ∀ a, (![512 * q.val, 0] : Fin 2 → Nat) a + S512x1024.size a ≤ S2048x1024.size a := by
  revert q; decide
/-- A slot lies within the buffer of four blocks. -/
theorem inb_grp (q : Fin 4) : ∀ a, (![q.val, 0, 0] : Fin 3 → Nat) a + S1x512x1024.size a ≤ S4x512x1024.size a := by
  revert q; decide
/-- A pair lies within the buffer of statistics. -/
theorem inb_own (q : Fin 4) : ∀ a, (![q.val, 0, 0] : Fin 3 → Nat) a + S1x2x512.size a ≤ S4x2x512.size a := by
  revert q; decide
/-- One half of a pair lies within the buffer of statistics. -/
theorem inb_stat (q : Fin 4) (h : Fin 2) : ∀ a, (![q.val, h.val, 0] : Fin 3 → Nat) a + S1x1x512.size a ≤ S4x2x512.size a := by
  revert q h; decide
/-- A landing slot lies within the landing buffer. -/
theorem inb_slot (q : Fin 4) (j : Fin 7) :
    ∀ a, (![q.val, j.val, 0, 0] : Fin 4 → Nat) a + S1x1x2x512.size a ≤ S4x7x2x512.size a := by
  revert q j; decide
/-- A row group's semaphore is one of the four. -/
theorem inb_sem4 (q : Fin 4) : ∀ a, (![q.val] : Fin 1 → Nat) a + S1.size a ≤ S4.size a := by revert q; decide
/-- The semaphore of γ or β is one of the two. -/
theorem inb_sem2 (h : Fin 2) : ∀ a, (![h.val] : Fin 1 → Nat) a + S1.size a ≤ S2.size a := by revert h; decide
/-- The semaphore of a row group and peer is one of the four times seven. -/
theorem inb_sem47 (q : Fin 4) (j : Fin 7) : ∀ a, (![q.val, j.val] : Fin 2 → Nat) a + S1x1.size a ≤ S4x7.size a := by
  revert q j; decide

/-- Row group `q` of the 2048 rows. -/
abbrev rRow (q : Fin 4) : Rect S2048x1024 := Rect.unit (s := S2048x1024) ![512 * q.val, 0] S512x1024.size (inb_row q)
/-- Slot `q` of a buffer of four 512×1024 blocks. -/
abbrev rGrp (q : Fin 4) : Rect S4x512x1024 := Rect.unit (s := S4x512x1024) ![q.val, 0, 0] S1x512x1024.size (inb_grp q)
/-- The pair (sums, sums of squares) of row group `q`. -/
abbrev rOwn (q : Fin 4) : Rect S4x2x512 := Rect.unit (s := S4x2x512) ![q.val, 0, 0] S1x2x512.size (inb_own q)
/-- One of the two: the sums (`h = 0`) or the sums of squares (`h = 1`). -/
abbrev rStat (q : Fin 4) (h : Fin 2) : Rect S4x2x512 :=
  Rect.unit (s := S4x2x512) ![q.val, h.val, 0] S1x1x512.size (inb_stat q h)
/-- The landing slot of row group `q` for the peer `j + 1` places before. -/
abbrev rSlot (q : Fin 4) (j : Fin 7) : Rect S4x7x2x512 :=
  Rect.unit (s := S4x7x2x512) ![q.val, j.val, 0, 0] S1x1x2x512.size (inb_slot q j)
/-- The whole of a 1×1024 row. -/
abbrev rVec : Rect S1x1024 := Rect.unit (s := S1x1024) ![0, 0] S1x1024.size inb_S1x1024_S1x1024_0_0

/-! ## Buffers and views -/

/-- The device's block of `x`. -/
abbrev xM : Memref sig .tc .hbm S2048x1024 .f32 := Memref.whole main_arg0
/-- The device's block of γ. -/
abbrev gammaM : Memref sig .tc .hbm S1x1024 .f32 := Memref.whole main_arg1
/-- The device's block of β. -/
abbrev betaM : Memref sig .tc .hbm S1x1024 .f32 := Memref.whole main_arg2
/-- The device's block of the result. -/
abbrev outM : Memref sig .tc .hbm S2048x1024 .f32 := Memref.whole main_v1
/-- The buffer of `x`. -/
abbrev xbufM : Memref sig .tc .vmem S4x512x1024 .f32 := Memref.whole cc0_scratch0
/-- The buffer of the result. -/
abbrev obufM : Memref sig .tc .vmem S4x512x1024 .f32 := Memref.whole cc0_scratch1
/-- The buffer of γ. -/
abbrev gbufM : Memref sig .tc .vmem S1x1024 .f32 := Memref.whole cc0_scratch2
/-- The buffer of β. -/
abbrev bbufM : Memref sig .tc .vmem S1x1024 .f32 := Memref.whole cc0_scratch3
/-- The buffer of this device's statistics. -/
abbrev ownM : Memref sig .tc .vmem S4x2x512 .f32 := Memref.whole cc0_scratch4
/-- The landing buffer of the peers' statistics. -/
abbrev recvM : Memref sig .tc .vmem S4x7x2x512 .f32 := Memref.whole cc0_scratch5

/-- Row group `q` of `x`. -/
abbrev xRow (q : Fin 4) : Memref sig .tc .hbm S512x1024 .f32 := xM.slice (rRow q) (fun _ => rfl)
/-- Row group `q` of the result. -/
abbrev outRow (q : Fin 4) : Memref sig .tc .hbm S512x1024 .f32 := outM.slice (rRow q) (fun _ => rfl)
/-- Slot `q` of the buffer of `x`, as a block of three axes. -/
abbrev xSlot (q : Fin 4) : Memref sig .tc .vmem S1x512x1024 .f32 := xbufM.slice (rGrp q) (fun _ => rfl)
/-- Slot `q` of the result's buffer, as a block of three axes. -/
abbrev oSlot (q : Fin 4) : Memref sig .tc .vmem S1x512x1024 .f32 := obufM.slice (rGrp q) (fun _ => rfl)
/-- The pair of row group `q`, as a block of three axes. -/
abbrev ownSlot (q : Fin 4) : Memref sig .tc .vmem S1x2x512 .f32 := ownM.slice (rOwn q) (fun _ => rfl)
/-- The landing slot of row group `q` and peer `j`, as a block of four axes. -/
abbrev recvSlot (q : Fin 4) (j : Fin 7) : Memref sig .tc .vmem S1x1x2x512 .f32 := recvM.slice (rSlot q j) (fun _ => rfl)
/-- Slot `q` of the buffer of `x`, as a matrix. -/
abbrev xFlat (q : Fin 4) : Memref sig .tc .vmem S512x1024 .f32 := (xSlot q).squeeze S512x1024 squeezes_S1x512x1024_S512x1024
/-- Slot `q` of the result's buffer, as a matrix. -/
abbrev oFlat (q : Fin 4) : Memref sig .tc .vmem S512x1024 .f32 := (oSlot q).squeeze S512x1024 squeezes_S1x512x1024_S512x1024
/-- The pair of row group `q`, as a matrix. -/
abbrev ownFlat (q : Fin 4) : Memref sig .tc .vmem S2x512 .f32 := (ownSlot q).squeeze S2x512 squeezes_S1x2x512_S2x512
/-- The landing slot of row group `q` and peer `j`, as a matrix. -/
abbrev recvFlat (q : Fin 4) (j : Fin 7) : Memref sig .tc .vmem S2x512 .f32 :=
  (recvSlot q j).squeeze S2x512 squeezes_S1x1x2x512_S2x512

/-! ## Semaphores -/

/-- The barrier semaphore. -/
abbrev barS : Sem sig := (SemArray.scalar (sig.barrier 0 rfl) : Sems sig S_).sem
/-- The semaphore of the copy in of row group `q`. -/
abbrev inS (q : Fin 4) : DmaSem sig :=
  ((cc0_scratch6.slice (Rect.unit (s := S4) ![q.val] S1.size (inb_sem4 q))).squeeze S_ squeezes_S1_S_).sem
/-- The semaphore of the copy out of row group `q`. -/
abbrev outS (q : Fin 4) : DmaSem sig :=
  ((cc0_scratch7.slice (Rect.unit (s := S4) ![q.val] S1.size (inb_sem4 q))).squeeze S_ squeezes_S1_S_).sem
/-- The semaphore of the copy of γ (`h = 0`) or β (`h = 1`). -/
abbrev gbS (h : Fin 2) : DmaSem sig :=
  ((cc0_scratch8.slice (Rect.unit (s := S2) ![h.val] S1.size (inb_sem2 h))).squeeze S_ squeezes_S1_S_).sem
/-- The sender's semaphore of the copy of row group `q` to peer `j`. -/
abbrev sendS (q : Fin 4) (j : Fin 7) : DmaSem sig :=
  ((cc0_scratch9.slice (Rect.unit (s := S4x7) ![q.val, j.val] S1x1.size (inb_sem47 q j))).squeeze S_ squeezes_S1x1_S_).sem
/-- The receiver's semaphore of the copy of row group `q` in slot `j`. -/
abbrev recvS (q : Fin 4) (j : Fin 7) : DmaSem sig :=
  ((cc0_scratch10.slice (Rect.unit (s := S4x7) ![q.val, j.val] S1x1.size (inb_sem47 q j))).squeeze S_ squeezes_S1x1_S_).sem

/-! ## The devices named -/

/-- The device that the `k`-th signal of device `c` goes to, as the program computes it. -/
def sigDev (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]
/-- The device that the `j`-th copy of row group `q` of device `c` goes to, as the program computes it. -/
def sendDev (c : Dev nD) : Fin 4 → Fin 7 → Dev nD :=
  ![![⟨k0_dev8 c, k0_dev8_lt c⟩, ⟨k0_dev9 c, k0_dev9_lt c⟩, ⟨k0_dev10 c, k0_dev10_lt c⟩, ⟨k0_dev11 c, k0_dev11_lt c⟩,
      ⟨k0_dev12 c, k0_dev12_lt c⟩, ⟨k0_dev13 c, k0_dev13_lt c⟩, ⟨k0_dev14 c, k0_dev14_lt c⟩],
    ![⟨k0_dev15 c, k0_dev15_lt c⟩, ⟨k0_dev16 c, k0_dev16_lt c⟩, ⟨k0_dev17 c, k0_dev17_lt c⟩, ⟨k0_dev18 c, k0_dev18_lt c⟩,
      ⟨k0_dev19 c, k0_dev19_lt c⟩, ⟨k0_dev20 c, k0_dev20_lt c⟩, ⟨k0_dev21 c, k0_dev21_lt c⟩],
    ![⟨k0_dev22 c, k0_dev22_lt c⟩, ⟨k0_dev23 c, k0_dev23_lt c⟩, ⟨k0_dev24 c, k0_dev24_lt c⟩, ⟨k0_dev25 c, k0_dev25_lt c⟩,
      ⟨k0_dev26 c, k0_dev26_lt c⟩, ⟨k0_dev27 c, k0_dev27_lt c⟩, ⟨k0_dev28 c, k0_dev28_lt c⟩],
    ![⟨k0_dev29 c, k0_dev29_lt c⟩, ⟨k0_dev30 c, k0_dev30_lt c⟩, ⟨k0_dev31 c, k0_dev31_lt c⟩, ⟨k0_dev32 c, k0_dev32_lt c⟩,
      ⟨k0_dev33 c, k0_dev33_lt c⟩, ⟨k0_dev34 c, k0_dev34_lt c⟩, ⟨k0_dev35 c, k0_dev35_lt c⟩]]

/-! ## Values -/

/-- The row sums of a block. -/
abbrev rowSums (x : Vec F S1x512x1024 .f32) : FVec F S1x1x512 .f32 := k0_pay2 x
/-- The row sums of the squares of a block. -/
abbrev rowSquares (x : Vec F S1x512x1024 .f32) : FVec F S1x1x512 .f32 := k0_pay3 x
/-- One block of the result, from this device's pair of statistics, the seven received, and γ, x and β. -/
abbrev normBlock (o : Vec F S1x2x512 .f32) (r : Fin 7 → Vec F S1x1x2x512 .f32) (g : Vec F S1x1024 .f32)
    (x : Vec F S1x512x1024 .f32) (b : Vec F S1x1024 .f32) : FVec F S1x512x1024 .f32 :=
  k0_pay16 (k0_pay14 (k0_pay13 o (r 0) (r 1) (r 2) (r 3)) (r 4) (r 5) (r 6) g x) (k0_pay15 b)

/-! ## The steps -/

/-- The programs that a device's core runs. -/
abbrev P (F : FTy → Type) [FloatOps F] (α : Type) := Prog (TpuEff nD τ sig (Elt F) Λ₀ .tc) α

/-- `f 0`, `f 1`, …, `f (n - 1)` in this order. -/
def rep : (n : ℕ) → (Fin n → P F PUnit) → P F PUnit
  | 0, _ => pure ⟨⟩
  | n + 1, f => do f 0; rep n fun i => f i.succ

/-- Start the copy of row group `q` of `x` into its buffer slot. -/
def startIn (q : Fin 4) : P F PUnit :=
  Prog.lift (.enqueueDma (xRow q) (.here (xFlat q)) (.dma (inS q)) (View.wordExact_bits rfl)
    ((View.wordExact_bits rfl).reshape _ _) ⟨Or.inl rfl, trivial⟩)
/-- Start the copy of γ into its buffer. -/
def startGamma : P F PUnit :=
  Prog.lift (.enqueueDma gammaM (.here gbufM) (.dma (gbS 0)) (Memref.isWhole_whole _).wordExact
    (Memref.isWhole_whole _).wordExact ⟨Or.inl rfl, trivial⟩)
/-- Start the copy of β into its buffer. -/
def startBeta : P F PUnit :=
  Prog.lift (.enqueueDma betaM (.here bbufM) (.dma (gbS 1)) (Memref.isWhole_whole _).wordExact
    (Memref.isWhole_whole _).wordExact ⟨Or.inl rfl, trivial⟩)
/-- Tell the `k`-th peer that this device has entered the kernel. -/
def signal (c : Dev nD) (k : Fin 7) : P F PUnit := semSignalWord (sigDev c k) barS 1#32
/-- Wait until the seven peers have entered. -/
def waitBar : P F PUnit := semWaitWord barS 7#32
/-- Wait until row group `q` of `x` is in its slot. -/
def waitIn (q : Fin 4) : P F PUnit :=
  Prog.lift (.waitDma2 (inS q) (xRow q) (xFlat q) (View.wordExact_bits rfl) ((View.wordExact_bits rfl).reshape _ _))
/-- Read block `q` of `x`; the first store of the pair, the row sums, and the second, the row sums of squares. -/
def sums (q : Fin 4) : P F PUnit := do
  let x : Vec F S1x512x1024 .f32 ← Prog.lift (.load xbufM (rGrp q).toLoadRect (View.loadsAt_vmem h_S1x512x1024))
  let _ : Vec F S1x1x512 .f32 ← Prog.lift (.load ownM (rStat q 0).toLoadRect (View.loadsAt_vmem h_S1x1x512))
  Prog.lift (.store ownM (rStat q 0) (rowSums x) Finset.univ (View.stores_vmem_bits_univ h_S1x1x512 rfl) (.inl rfl))
  let _ : Vec F S1x1x512 .f32 ← Prog.lift (.load ownM (rStat q 1).toLoadRect (View.loadsAt_vmem h_S1x1x512))
  Prog.lift (.store ownM (rStat q 1) (rowSquares x) Finset.univ (View.stores_vmem_bits_univ h_S1x1x512 rfl) (.inl rfl))
/-- Copy the pair of row group `q` to the `j`-th peer. -/
def send (c : Dev nD) (q : Fin 4) (j : Fin 7) : P F PUnit :=
  Prog.lift (.enqueueDma (ownFlat q) (.remote (Dev.tc (sendDev c q j)) (recvFlat q j) (.dma (sendS q j)))
    (.dma (recvS q j)) ((View.wordExact_bits rfl).reshape _ _) ((View.wordExact_bits rfl).reshape _ _)
    ⟨⟨rfl, Or.inl rfl⟩, trivial⟩)
/-- Wait until γ is in its buffer. -/
def waitGamma : P F PUnit :=
  Prog.lift (.waitDma2 (gbS 0) gammaM gbufM (Memref.isWhole_whole _).wordExact (Memref.isWhole_whole _).wordExact)
/-- Wait until β is in its buffer. -/
def waitBeta : P F PUnit :=
  Prog.lift (.waitDma2 (gbS 1) betaM bbufM (Memref.isWhole_whole _).wordExact (Memref.isWhole_whole _).wordExact)
/-- Wait until the statistics for landing slot `j` of row group `q` are there. -/
def waitRecv (q : Fin 4) (j : Fin 7) : P F PUnit :=
  Prog.lift (.waitDma2 (recvS q j) (ownFlat q) (recvFlat q j) ((View.wordExact_bits rfl).reshape _ _)
    ((View.wordExact_bits rfl).reshape _ _))
/-- Read landing slot `j` of row group `q`. -/
def loadRecv (q : Fin 4) (j : Fin 7) : P F (Vec F S1x1x2x512 .f32) :=
  Prog.lift (.load recvM (rSlot q j).toLoadRect (View.loadsAt_vmem h_S1x1x2x512))
/-- Read the eight pairs of row group `q`, and γ, `x` and β, and store the result's block. -/
def norm (q : Fin 4) : P F PUnit := do
  let o : Vec F S1x2x512 .f32 ← Prog.lift (.load ownM (rOwn q).toLoadRect (View.loadsAt_vmem h_S1x2x512))
  let r0 ← loadRecv q 0
  let r1 ← loadRecv q 1
  let r2 ← loadRecv q 2
  let r3 ← loadRecv q 3
  let r4 ← loadRecv q 4
  let r5 ← loadRecv q 5
  let r6 ← loadRecv q 6
  let g : Vec F S1x1024 .f32 ← Prog.lift (.load gbufM rVec.toLoadRect (View.loadsAt_vmem h_S1x1024))
  let x : Vec F S1x512x1024 .f32 ← Prog.lift (.load xbufM (rGrp q).toLoadRect (View.loadsAt_vmem h_S1x512x1024))
  let b : Vec F S1x1024 .f32 ← Prog.lift (.load bbufM rVec.toLoadRect (View.loadsAt_vmem h_S1x1024))
  let _ : Vec F S1x512x1024 .f32 ← Prog.lift (.load obufM (rGrp q).toLoadRect (View.loadsAt_vmem h_S1x512x1024))
  Prog.lift (.store obufM (rGrp q) (normBlock o ![r0, r1, r2, r3, r4, r5, r6] g x b) Finset.univ
    (View.stores_vmem_bits_univ h_S1x512x1024 rfl) (.inl rfl))
/-- Start the copy of block `q` of the result to its rows. -/
def startOut (q : Fin 4) : P F PUnit :=
  Prog.lift (.enqueueDma (oFlat q) (.here (outRow q)) (.dma (outS q)) ((View.wordExact_bits rfl).reshape _ _)
    (View.wordExact_bits rfl) ⟨Or.inl rfl, trivial⟩)
/-- Wait until block `q` of the result is in its rows. -/
def waitOut (q : Fin 4) : P F PUnit :=
  Prog.lift (.waitDma2 (outS q) (oFlat q) (outRow q) ((View.wordExact_bits rfl).reshape _ _) (View.wordExact_bits rfl))
/-- Wait until the `j`-th copy of row group `q` has read its source. -/
def waitSend (q : Fin 4) (j : Fin 7) : P F PUnit :=
  Prog.lift (.waitDma2 (sendS q j) (recvFlat q j) (ownFlat q) ((View.wordExact_bits rfl).reshape _ _)
    ((View.wordExact_bits rfl).reshape _ _))

/-- Row group 0's statistics, the barrier between them and its copies. -/
def firstGroup (c : Dev nD) : P F PUnit := do
  waitIn 0; sums 0; waitBar; rep 7 (send c 0)
/-- A later row group's statistics and copies. -/
def nextGroup (c : Dev nD) (q : Fin 4) : P F PUnit := do
  waitIn q; sums q; rep 7 (send c q)
/-- A row group's result. -/
def result (q : Fin 4) : P F PUnit := do
  rep 7 (waitRecv q); norm q; startOut q

/-- The whole kernel on one device. -/
def program : P F PUnit := do
  let c ← Prog.lift .deviceId
  rep 4 startIn
  startGamma
  startBeta
  rep 7 (signal c)
  firstGroup c
  rep 3 fun i => nextGroup c i.succ
  waitGamma
  waitBeta
  rep 4 result
  rep 4 waitOut
  rep 4 fun q => rep 7 (waitSend q)

set_option maxRecDepth 100000 in
set_option maxHeartbeats 4000000 in
/-- The printed body is that program. -/
theorem body_eq : cc0_body (F := F) (Memref.whole main_arg0) (Memref.isWhole_whole _) (Memref.whole main_arg1) (Memref.isWhole_whole _)
      (Memref.whole main_arg2) (Memref.isWhole_whole _) (Memref.whole main_v1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 = program := by
  simp only [cc0_body_eq_skeleton, cc0_body_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton,
    k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel,
    Prog.lift, Prog.bind_op, Prog.bind_ret, Prog.pure_eq_ret, semSignalWord, semWaitWord]
  simp only [program, rep, startIn, startGamma, startBeta, signal, firstGroup, nextGroup, waitGamma, waitBeta, result,
    waitOut, waitSend, waitIn, sums, waitBar, send, waitRecv, norm, loadRecv, startOut,
    Prog.lift, Prog.bind_op, Prog.bind_ret, Prog.pure_eq_ret, semSignalWord, semWaitWord]
  rfl

end Cert.KernelIdealRun

end
-- ==== Proof.KernelIdealValues.lean ====
/-
# What the buffers hold

The contents of every buffer once it is filled, as functions of the arguments, and the facts that tie them to the
views the copies and stores go through.
-/
module

public import proofs.«01_k».proof.Proof.KernelIdealProgram
public import Idealize.ShloMosaic.Lib.Ring
public import Idealize.ShloMosaic.Lib.Pipeline.Value
public import Idealize.ShloMosaic.Lib.ValueIdxCore
public import Idealize.ShloMosaic.Lib.ViewIndex

@[expose] public section

noncomputable section

namespace Cert.KernelIdealRun

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## The peers -/

/-- The device `k + 1` places after `c`, around the eight. -/
def tgt (c : Dev nD) (k : Fin 7) : Dev nD := ⟨(c.val + (k.val + 1)) % 8, Nat.mod_lt _ (by decide)⟩

/-- Going on and then back leads to the start. -/
theorem tgt_rev (c : Dev nD) (k : Fin 7) : tgt (tgt c k) k.rev = c := by revert c k; decide
/-- Going back and then on leads to the start. -/
theorem tgt_rev' (c : Dev nD) (k : Fin 7) : tgt (tgt c k.rev) k = c := by revert c k; decide
/-- The `k`-th signal goes `k + 1` places on. -/
theorem sigDev_eq (c : Dev nD) (k : Fin 7) : sigDev c k = tgt c k := by revert c k; decide
/-- The `j`-th copy of each row group goes `j + 1` places on. -/
theorem sendDev_eq (c : Dev nD) (q : Fin 4) (j : Fin 7) : sendDev c q j = tgt c j := by revert c q j; decide

/-- Going `k + 1` places on, as a bijection of the devices. -/
def hop (k : Fin 7) : Dev nD ≃ Dev nD := ⟨fun c => tgt c k, fun c => tgt c k.rev, fun c => tgt_rev c k, fun c => tgt_rev' c k⟩

/-! ## Contents -/

section Contents

variable (m : (ℓ : Loc nD τ sig) → Buf (Elt F) ℓ)

/-- Device `c`'s block of `x`, its γ and its β. -/
abbrev xArr (c : Dev nD) : Vec F S2048x1024 .f32 := m ((c : Thread nD τ).loc main_arg0)
/-- Device `c`'s γ. -/
abbrev gammaArr (c : Dev nD) : Vec F S1x1024 .f32 := m ((c : Thread nD τ).loc main_arg1)
/-- Device `c`'s β. -/
abbrev betaArr (c : Dev nD) : Vec F S1x1024 .f32 := m ((c : Thread nD τ).loc main_arg2)

/-- The row of `x` that row `r` of row group `q` is. -/
abbrev rowOf (q : Fin 4) (r : Fin 512) : Fin 2048 := ⟨512 * q.val + r.val, by omega⟩

/-- The buffer of `x`: the four row groups, one per slot. -/
def xBuf (c : Dev nD) : Vec F S4x512x1024 .f32 := fun i => xArr m c (ix2 (rowOf (i 0) (i 1)) (i 2))
/-- Row group `q` as the body reads it. -/
def xVec (c : Dev nD) (q : Fin 4) : Vec F S1x512x1024 .f32 := xbufM.view.readAt (Elt F) (rGrp q).toLoadRect (xBuf m c)
/-- The statistics of this device's columns: per row group the row sums, then the row sums of squares. -/
def ownBuf (c : Dev nD) : Vec F S4x2x512 .f32 := fun i =>
  if (i 1).val = 0 then rowSums (xVec m c (i 0)) (ix3 (0 : Fin 1) (0 : Fin 1) (i 2))
  else rowSquares (xVec m c (i 0)) (ix3 (0 : Fin 1) (0 : Fin 1) (i 2))
/-- What has landed from the seven peers: slot `j` holds the statistics of the device `j + 1` places before. -/
def recvBuf (c : Dev nD) : Vec F S4x7x2x512 .f32 := fun i => ownBuf m (tgt c (i 1).rev) (ix3 (i 0) (i 2) (i 3))
/-- The result's row group `q`. -/
def outVec (c : Dev nD) (q : Fin 4) : Vec F S1x512x1024 .f32 :=
  normBlock (ownM.view.readAt (Elt F) (rOwn q).toLoadRect (ownBuf m c))
    (fun j => recvM.view.readAt (Elt F) (rSlot q j).toLoadRect (recvBuf m c))
    (gbufM.view.readAt (Elt F) rVec.toLoadRect (gammaArr m c)) (xVec m c q)
    (bbufM.view.readAt (Elt F) rVec.toLoadRect (betaArr m c))
/-- The buffer of the result, one row group per slot. -/
def oBuf (c : Dev nD) : Vec F S4x512x1024 .f32 := fun i => outVec m c (i 0) (ix3 (0 : Fin 1) (i 1) (i 2))
/-- The result. -/
def outArr (c : Dev nD) : Vec F S2048x1024 .f32 := fun i =>
  oBuf m c (ix3 (⟨(i 0).val / 512, by have := (i 0).isLt; simp only [S2048x1024, Matrix.cons_val_zero] at this; omega⟩ : Fin 4)
    (⟨(i 0).val % 512, Nat.mod_lt _ (by decide)⟩ : Fin 512) (i 1))

end Contents

/-! ## Where the rectangles lie -/

/-- A row group's elements are those whose row, divided by 512, is its number. -/
theorem mem_row (q : Fin 4) (i : S2048x1024.Idx) : i ∈ (rRow q).set ↔ (i 0).val / 512 = q.val := by
  rw [Rect.mem_set_unit, Fin.forall_fin_two]
  have h1 : (i 1).val < 1024 := (i 1).isLt
  show (512 * q.val ≤ (i 0).val ∧ (i 0).val < 512 * q.val + 512) ∧ (0 ≤ (i 1).val ∧ (i 1).val < 0 + 1024) ↔ _
  omega
/-- A property of three indices holds when it holds at each. -/
theorem forall_fin3 {p : Fin 3 → Prop} : (∀ a, p a) ↔ p 0 ∧ p 1 ∧ p 2 :=
  ⟨fun h => ⟨h 0, h 1, h 2⟩, fun ⟨h0, h1, h2⟩ a => by fin_cases a <;> assumption⟩
/-- A property of four indices holds when it holds at each. -/
theorem forall_fin4 {p : Fin 4 → Prop} : (∀ a, p a) ↔ p 0 ∧ p 1 ∧ p 2 ∧ p 3 :=
  ⟨fun h => ⟨h 0, h 1, h 2, h 3⟩, fun ⟨h0, h1, h2, h3⟩ a => by fin_cases a <;> assumption⟩
/-- A slot's elements are those with its number first. -/
theorem mem_grp (q : Fin 4) (i : S4x512x1024.Idx) : i ∈ (rGrp q).set ↔ (i 0).val = q.val := by
  rw [Rect.mem_set_unit, forall_fin3]
  have h1 : (i 1).val < 512 := (i 1).isLt
  have h2 : (i 2).val < 1024 := (i 2).isLt
  show (q.val ≤ (i 0).val ∧ (i 0).val < q.val + 1) ∧ (0 ≤ (i 1).val ∧ (i 1).val < 0 + 512) ∧ (0 ≤ (i 2).val ∧ (i 2).val < 0 + 1024) ↔ _
  omega
/-- A pair's elements are those with its row group first. -/
theorem mem_own (q : Fin 4) (i : S4x2x512.Idx) : i ∈ (rOwn q).set ↔ (i 0).val = q.val := by
  rw [Rect.mem_set_unit, forall_fin3]
  have h1 : (i 1).val < 2 := (i 1).isLt
  have h2 : (i 2).val < 512 := (i 2).isLt
  show (q.val ≤ (i 0).val ∧ (i 0).val < q.val + 1) ∧ (0 ≤ (i 1).val ∧ (i 1).val < 0 + 2) ∧ (0 ≤ (i 2).val ∧ (i 2).val < 0 + 512) ↔ _
  omega
/-- The elements of one half of a pair are those with its row group and half first. -/
theorem mem_stat (q : Fin 4) (h : Fin 2) (i : S4x2x512.Idx) :
    i ∈ (rStat q h).set ↔ (i 0).val = q.val ∧ (i 1).val = h.val := by
  rw [Rect.mem_set_unit, forall_fin3]
  have h2 : (i 2).val < 512 := (i 2).isLt
  show (q.val ≤ (i 0).val ∧ (i 0).val < q.val + 1) ∧ (h.val ≤ (i 1).val ∧ (i 1).val < h.val + 1) ∧ (0 ≤ (i 2).val ∧ (i 2).val < 0 + 512) ↔ _
  omega
/-- A landing slot's elements are those with its row group and peer first. -/
theorem mem_slot (q : Fin 4) (j : Fin 7) (i : S4x7x2x512.Idx) :
    i ∈ (rSlot q j).set ↔ (i 0).val = q.val ∧ (i 1).val = j.val := by
  rw [Rect.mem_set_unit, forall_fin4]
  have h2 : (i 2).val < 2 := (i 2).isLt
  have h3 : (i 3).val < 512 := (i 3).isLt
  show (q.val ≤ (i 0).val ∧ (i 0).val < q.val + 1) ∧ (j.val ≤ (i 1).val ∧ (i 1).val < j.val + 1)
    ∧ (0 ≤ (i 2).val ∧ (i 2).val < 0 + 2) ∧ (0 ≤ (i 3).val ∧ (i 3).val < 0 + 512) ↔ _
  omega

/-! A unit rectangle's embedding adds its offsets. -/

/-- Along each axis, the rectangle's place of an element is the offset and the element's place. -/
theorem emb_val {s : Shape} {off size : Fin s.rank → Nat} (inb : ∀ a, off a + size a ≤ s.size a) (x : (Rect.unit off size inb).shape.Idx)
    (a : Fin s.rank) : (((Rect.unit off size inb).emb x) a).val = off a + (x a).val := by
  simp [Rect.emb, LoadRect.idx, Rect.unit]

/-! The element of a block under an element of the flat view of it. -/

/-- An element of a flat slot is that of the buffer with the slot's number before it. -/
theorem grp_flat (f : Vec F S4x512x1024 .f32) (q : Fin 4) (i : S512x1024.Idx) :
    (xFlat q).view.read (Elt F) f i = f (ix3 q (i 0) (i 1)) := by
  show shapeCast S512x1024 (fun j => f ((rGrp q).emb j)) shapeCasts_S1x512x1024_S512x1024 i = _
  rw [shapeCast_dropUnit_apply]
  refine congrArg f (funext fun a => Fin.ext ?_)
  rw [emb_val]
  match a with
  | ⟨0, _⟩ => show q.val + 0 = q.val; omega
  | ⟨1, _⟩ => show 0 + (i 0).val = (i 0).val; omega
  | ⟨2, _⟩ => show 0 + (i 1).val = (i 1).val; omega

/-- A landing slot is a matrix of as many elements. -/
theorem casts_slot : S1x1x2x512.ShapeCasts S2x512 := by decide
/-- A pair is a matrix of as many elements. -/
theorem casts_own : S1x2x512.ShapeCasts S2x512 := by decide

/-- An element of a flat pair is that of the buffer with the row group before it. -/
theorem own_flat (f : Vec F S4x2x512 .f32) (q : Fin 4) (i : S2x512.Idx) :
    (ownFlat q).view.read (Elt F) f i = f (ix3 q (i 0) (i 1)) := by
  show shapeCast S2x512 (fun j => f ((rOwn q).emb j)) casts_own i = _
  rw [shapeCast_dropUnit_apply]
  refine congrArg f (funext fun a => Fin.ext ?_)
  rw [emb_val]
  match a with
  | ⟨0, _⟩ => show q.val + 0 = q.val; omega
  | ⟨1, _⟩ => show 0 + (i 0).val = (i 0).val; omega
  | ⟨2, _⟩ => show 0 + (i 1).val = (i 1).val; omega

/-- An element of a flat landing slot is that of the buffer with row group and peer before it. -/
theorem slot_flat (f : Vec F S4x7x2x512 .f32) (q : Fin 4) (j : Fin 7) (i : S2x512.Idx) :
    (recvFlat q j).view.read (Elt F) f i = f (ix4 q j (i 0) (i 1)) := by
  show shapeCast S2x512 (fun k => f ((rSlot q j).emb k)) casts_slot i = _
  refine (shapeCast_apply (s := S1x1x2x512) (t := S2x512) _ _ i (ix4 (0 : Fin 1) (0 : Fin 1) (i 0) (i 1)) (by
      rw [Shape.rowMajor_val_two, Shape.rowMajor_val_four]
      show ((0 * 1 + 0) * 2 + (i 0).val) * 512 + (i 1).val = (i 0).val * 512 + (i 1).val
      omega)).trans ?_
  refine congrArg f (funext fun a => Fin.ext ?_)
  rw [emb_val]
  match a with
  | ⟨0, _⟩ => show q.val + 0 = q.val; omega
  | ⟨1, _⟩ => show j.val + 0 = j.val; omega
  | ⟨2, _⟩ => show 0 + (i 0).val = (i 0).val; omega
  | ⟨3, _⟩ => show 0 + (i 1).val = (i 1).val; omega

/-! ## A write that makes the stated contents -/

/-- A write of all of a view makes contents `g` on the view's elements when `g` reads as the payload. -/
theorem write_eq_on {κ : Kind} {sp : Space} {s : Shape} {e : EltTy} (v : View sig κ sp s e) (f g : v.ty.Contents (Elt F))
    (w : s.Idx → Elt F e) (h : v.read (Elt F) g = w) : ∀ i ∈ v.set, v.write (Elt F) f w Finset.univ i = g i := by
  intro i hi
  obtain ⟨x, -, rfl⟩ := Finset.mem_map.mp hi
  exact View.eq_of_read_eq (by rw [View.read_write_of_mem _ _ (Finset.mem_univ x), h])

section Reads

variable (m : (ℓ : Loc nD τ sig) → Buf (Elt F) ℓ)

/-- The buffer slot of `x` reads as the rows of `x`. -/
theorem read_x (c : Dev nD) (q : Fin 4) : (xFlat q).view.read (Elt F) (xBuf m c) = (xRow q).view.read (Elt F) (xArr m c) := by
  funext i
  rw [grp_flat]
  show xArr m c _ = xArr m c ((rRow q).emb i)
  refine congrArg (xArr m c) (funext fun a => Fin.ext ?_)
  rw [emb_val]
  match a with
  | ⟨0, _⟩ => rfl
  | ⟨1, _⟩ => show (i 1).val = 0 + (i 1).val; omega

/-- A landing slot reads as the sender's statistics of that row group. -/
theorem read_recv (d : Dev nD) (q : Fin 4) (j : Fin 7) :
    (recvFlat q j).view.read (Elt F) (recvBuf m d) = (ownFlat q).view.read (Elt F) (ownBuf m (tgt d j.rev)) := by
  funext i
  exact (slot_flat _ q j i).trans (own_flat _ q i).symm

/-- The result's rows read as the buffer slot. -/
theorem read_out (c : Dev nD) (q : Fin 4) : (outRow q).view.read (Elt F) (outArr m c) = (oFlat q).view.read (Elt F) (oBuf m c) := by
  funext i
  refine Eq.trans ?_ (grp_flat (oBuf m c) q i).symm
  show outArr m c ((rRow q).emb i) = _
  have h0 : (((rRow q).emb i) 0).val = 512 * q.val + (i 0).val := emb_val _ _ _
  have h1 : (((rRow q).emb i) 1).val = 0 + (i 1).val := emb_val _ _ _
  have hi : (i 0).val < 512 := (i 0).isLt
  unfold outArr
  refine congrArg (oBuf m c) (funext fun a => Fin.ext ?_)
  match a with
  | ⟨0, _⟩ => show _ / 512 = q.val; rw [h0]; omega
  | ⟨1, _⟩ => show _ % 512 = (i 0).val; rw [h0]; omega
  | ⟨2, _⟩ => show _ = (i 1).val; rw [h1]; omega

/-- The result's buffer reads as the value stored. -/
theorem read_obuf (c : Dev nD) (q : Fin 4) : (obufM.access (rGrp q)).read (Elt F) (oBuf m c) = outVec m c q := by
  funext i
  show outVec m c (((rGrp q).emb i) 0) (ix3 (0 : Fin 1) (((rGrp q).emb i) 1) (((rGrp q).emb i) 2)) = _
  have h0 : (i 0).val = 0 := by have : (i 0).val < 1 := (i 0).isLt; omega
  have hq : (((rGrp q).emb i) 0 : Fin 4) = q := Fin.ext (by rw [emb_val]; show q.val + (i 0).val = q.val; omega)
  rw [hq]
  refine congrArg (outVec m c q) (funext fun a => Fin.ext ?_)
  match a with
  | ⟨0, _⟩ => exact h0.symm
  | ⟨1, _⟩ => show (((rGrp q).emb i) 1).val = (i 1).val; rw [emb_val]; show 0 + _ = _; omega
  | ⟨2, _⟩ => show (((rGrp q).emb i) 2).val = (i 2).val; rw [emb_val]; show 0 + _ = _; omega

/-- The buffer of statistics reads as the two values stored. -/
theorem read_stat0 (c : Dev nD) (q : Fin 4) : (ownM.access (rStat q 0)).read (Elt F) (ownBuf m c) = rowSums (xVec m c q) := by
  funext i
  show ownBuf m c ((rStat q 0).emb i) = _
  have h0 : (i 0).val = 0 := by have : (i 0).val < 1 := (i 0).isLt; omega
  have h1 : (i 1).val = 0 := by have : (i 1).val < 1 := (i 1).isLt; omega
  have hq : (((rStat q 0).emb i) 0 : Fin 4) = q := Fin.ext (by rw [emb_val]; show q.val + (i 0).val = q.val; omega)
  have e1 : (((rStat q 0).emb i) 1).val = 0 := by rw [emb_val]; show 0 + (i 1).val = 0; omega
  unfold ownBuf
  rw [if_pos e1, hq]
  refine congrArg (rowSums (xVec m c q)) (funext fun a => Fin.ext ?_)
  match a with
  | ⟨0, _⟩ => exact h0.symm
  | ⟨1, _⟩ => exact h1.symm
  | ⟨2, _⟩ => show (((rStat q 0).emb i) 2).val = (i 2).val; rw [emb_val]; show 0 + _ = _; omega
/-- The second half of a pair reads as the row sums of squares. -/
theorem read_stat1 (c : Dev nD) (q : Fin 4) : (ownM.access (rStat q 1)).read (Elt F) (ownBuf m c) = rowSquares (xVec m c q) := by
  funext i
  show ownBuf m c ((rStat q 1).emb i) = _
  have h0 : (i 0).val = 0 := by have : (i 0).val < 1 := (i 0).isLt; omega
  have h1 : (i 1).val = 0 := by have : (i 1).val < 1 := (i 1).isLt; omega
  have hq : (((rStat q 1).emb i) 0 : Fin 4) = q := Fin.ext (by rw [emb_val]; show q.val + (i 0).val = q.val; omega)
  have e1 : ¬ (((rStat q 1).emb i) 1).val = 0 := by rw [emb_val]; show ¬ 1 + (i 1).val = 0; omega
  unfold ownBuf
  rw [if_neg e1, hq]
  refine congrArg (rowSquares (xVec m c q)) (funext fun a => Fin.ext ?_)
  match a with
  | ⟨0, _⟩ => exact h0.symm
  | ⟨1, _⟩ => exact h1.symm
  | ⟨2, _⟩ => show (((rStat q 1).emb i) 2).val = (i 2).val; rw [emb_val]; show 0 + _ = _; omega

/-- The elements of a flat pair are those of the pair. -/
theorem set_own (q : Fin 4) : ((ownFlat q).view.set : Finset S4x2x512.Idx) = (rOwn q).set :=
  (View.set_reshape _ _).trans (View.set_slice_whole _ _)
/-- The elements of a view of one half of a pair are those of the half. -/
theorem set_stat (q : Fin 4) (h : Fin 2) : ((ownM.access (rStat q h)).set : Finset S4x2x512.Idx) = (rStat q h).set :=
  View.set_slice_whole _ _

/-- The two stores fill a row group's pair. -/
theorem stats_stored (c : Dev nD) (q : Fin 4) (f : Vec F S4x2x512 .f32) (i : S4x2x512.Idx) (hi : i ∈ ((ownFlat q).view.set : Finset S4x2x512.Idx)) :
    (ownM.access (rStat q 1)).write (Elt F) ((ownM.access (rStat q 0)).write (Elt F) f (rowSums (xVec m c q)) Finset.univ)
      (rowSquares (xVec m c q)) Finset.univ i = ownBuf m c i := by
  rw [set_own, mem_own] at hi
  have h1 : (i 1).val < 2 := (i 1).isLt
  by_cases h : (i 1).val = 1
  · exact write_eq_on (ownM.access (rStat q 1)) _ (ownBuf m c) _ (read_stat1 m c q) i (by
      have := (mem_stat q 1 i).mpr ⟨hi, h⟩
      rw [← set_stat] at this; exact this)
  · refine (View.write_of_not_mem (v := ownM.access (rStat q 1)) _ _ _ (fun hh => h ?_)).trans
      (write_eq_on (ownM.access (rStat q 0)) f (ownBuf m c) _ (read_stat0 m c q) i ?_)
    · have : i ∈ ((ownM.access (rStat q 1)).set : Finset S4x2x512.Idx) := hh
      rw [set_stat] at this
      exact ((mem_stat q 1 i).mp this).2
    · have := (mem_stat q 0 i).mpr ⟨hi, by show _ = 0; omega⟩
      rw [← set_stat] at this; exact this

end Reads

end Cert.KernelIdealRun

end
-- ==== Proof.KernelIdealProtocol.lean ====
/-
# The protocol

Every device has one barrier cell and 66 copy cells. Each cell has one round.

* Barrier cell of `c`: seven duties of one unit. Duty `d` is paid by the device `d + 1` places after `c`. With it come
  that device's four landing slots for `c`'s copies, which is what lets `c` copy into them.
* Incoming copy of row group `q`: the slot filled with the rows of `x`, and the rows back. Likewise γ and β.
* Outgoing copy of row group `q`: the rows of the result, and the slot back.
* Copy of row group `q`'s statistics to the peer `j + 1` places on. The send cell gives back the part of the source lent to
  the copy. The receive cell, on the peer, gives the landing slot filled with the sender's statistics.
-/
module

public import proofs.«01_k».proof.Proof.KernelIdealValues
public import Idealize.ShloMosaic.Lib.ShareLeaves
public import Mathlib.Algebra.BigOperators.Intervals

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The cells -/

/-- The copy cells: incoming, outgoing, γ and β, sends, receives. -/
abbrev DKind : Type := Fin 4 ⊕ Fin 4 ⊕ Fin 2 ⊕ (Fin 4 × Fin 7) ⊕ (Fin 4 × Fin 7)
/-- All cells of a device: the barrier and the copy cells. -/
abbrev Kind : Type := Unit ⊕ DKind
/-- Equality of cells is decidable. -/
instance : DecidableEq Kind := @instDecidableEqSum Unit DKind (fun _ _ => .isTrue rfl) inferInstance

/-- The cell of the copy in of row group `q`. -/
@[match_pattern] abbrev dInn (q : Fin 4) : DKind := .inl q
/-- The cell of the copy out of row group `q`. -/
@[match_pattern] abbrev dOut (q : Fin 4) : DKind := .inr (.inl q)
/-- The cell of the copy of γ (`h = 0`) or β (`h = 1`). -/
@[match_pattern] abbrev dGb (h : Fin 2) : DKind := .inr (.inr (.inl h))
/-- The sender's cell of the copy of row group `q` to peer `j`. -/
@[match_pattern] abbrev dSend (q : Fin 4) (j : Fin 7) : DKind := .inr (.inr (.inr (.inl (q, j))))
/-- The receiver's cell of the copy of row group `q` in slot `j`. -/
@[match_pattern] abbrev dRecv (q : Fin 4) (j : Fin 7) : DKind := .inr (.inr (.inr (.inr (q, j))))
/-- The barrier cell. -/
@[match_pattern] abbrev kBar : Kind := .inl ()
/-- A copy cell among all cells. -/
@[match_pattern] abbrev kD (k : DKind) : Kind := .inr k

/-- The semaphore of a copy cell. -/
def dsem : DKind → DmaSem sig
  | dInn q => inS q
  | dOut q => outS q
  | dGb h => gbS h
  | dSend q j => sendS q j
  | dRecv q j => recvS q j
/-- The copy cell of a semaphore. -/
def dkind (i : DmaSem sig) : DKind :=
  have hi : i.val < 66 := i.isLt
  if h : i.val < 4 then dInn ⟨i.val, h⟩
  else if h : i.val < 8 then dOut ⟨i.val - 4, by omega⟩
  else if h : i.val < 10 then dGb ⟨i.val - 8, by omega⟩
  else if h : i.val < 38 then dSend ⟨(i.val - 10) / 7, by omega⟩ ⟨(i.val - 10) % 7, Nat.mod_lt _ (by decide)⟩
  else dRecv ⟨(i.val - 38) / 7, by omega⟩ ⟨(i.val - 38) % 7, Nat.mod_lt _ (by decide)⟩

/-- The copy cell of a copy cell's semaphore is that cell. -/
theorem dkind_dsem (k : DKind) : dkind (dsem k) = k := by
  match k with
  | dInn q => revert q; decide
  | dOut q => revert q; decide
  | dGb h => revert h; decide
  | dSend q j => revert q j; decide
  | dRecv q j => revert q j; decide
/-- The semaphore of a semaphore's copy cell is that semaphore. -/
theorem dsem_dkind (i : DmaSem sig) : dsem (dkind i) = i := by revert i; decide

/-- The semaphore of a cell. -/
def semOf : Kind → SemLoc sig
  | kBar => .reg barS
  | kD k => .dma (dsem k)
/-- The cell of a semaphore. -/
def kindOf : SemLoc sig → Kind
  | .reg _ => kBar
  | .dma i => kD (dkind i)
/-- The cell of a cell's semaphore is that cell. -/
theorem kindOf_semOf (k : Kind) : kindOf (semOf k) = k := by
  match k with
  | kBar => rfl
  | kD k => exact congrArg kD (dkind_dsem k)
/-- The semaphore of a semaphore's cell is that semaphore. -/
theorem semOf_kindOf (s : SemLoc sig) : semOf (kindOf s) = s := by
  match s with
  | .reg s => exact congrArg SemLoc.reg (by revert s; decide)
  | .dma i => exact congrArg SemLoc.dma (dsem_dkind i)

/-- The cell of kind `k` on device `c`. -/
abbrev cell (c : Dev nD) (k : Kind) : GSem nD τ sig := ((c : Thread nD τ), semOf k)

/-! ## The resources -/

/-- The ghost state of the cells' rounds, with up to seven duties each. -/
abbrev UB : Type := URounds (GSem nD τ sig) (Fin 7)
/-- All ghost state: that of the call and that of the rounds. -/
abbrev UU : Type := UR sig nD τ × UB

local notation "𝕄" => MT nD τ sig Unit (Elt F) ℕ UU ℕ

/-- The place of the call's ghost state in the whole. -/
abbrev EP : Emb (UR sig nD τ) (MT nD τ sig Unit (Elt F) ℕ UU ℕ) := embL
/-- The place of the rounds' ghost state in the whole. -/
abbrev ER : Emb UB (MT nD τ sig Unit (Elt F) ℕ UU ℕ) := embR

/-- The eight shares that a row group's statistics are lent at: share 0 stays, share `j + 1` goes with the `j`-th copy. -/
abbrev lent (i : Fin 8) : PosShare TreeShare := ShareLeaves.leaf 3 fullShare i

/-- Ownership of a view's elements on device `c` at contents `f` and share `s`. -/
abbrev held {sp : Space} {sh : Shape} {e : EltTy} (c : Dev nD) (M : Memref sig .tc sp sh e) (s : PosShare TreeShare)
    (f : M.view.ty.Contents (Elt F)) : sProp 𝕄 :=
  (M.view.loc (c : Thread nD τ) : Loc nD τ sig) ↦[M.view.set]{s} f
/-- The same in full, at contents not named. -/
abbrev room {sp : Space} {sh : Shape} {e : EltTy} (c : Dev nD) (M : Memref sig .tc sp sh e) : sProp 𝕄 :=
  iprop(∃ f : M.view.ty.Contents (Elt F), held c M fullShare f)

variable (m : (ℓ : Loc nD τ sig) → Buf (Elt F) ℓ)

/-- What a duty of a cell of device `c` hands over. -/
def pay (c : Dev nD) : Kind → Fin 7 → sProp 𝕄
  | kBar, d => bigSep Finset.univ fun q : Fin 4 => room (F := F) (tgt c d) (recvFlat q d)
  | kD (dInn q), _ => iprop(held c (xFlat q) fullShare (xBuf m c) ∗ held c (xRow q) fullShare (xArr m c))
  | kD (dOut q), _ => iprop(held c (outRow q) fullShare (outArr m c) ∗ held c (oFlat q) fullShare (oBuf m c))
  | kD (dGb h), _ =>
    if h = 0 then iprop(held c gbufM fullShare (gammaArr m c) ∗ held c gammaM fullShare (gammaArr m c))
    else iprop(held c bbufM fullShare (betaArr m c) ∗ held c betaM fullShare (betaArr m c))
  | kD (dSend q j), _ => held c (ownFlat q) (lent j.succ) (ownBuf m c)
  | kD (dRecv q j), _ => held c (recvFlat q j) fullShare (recvBuf m c)

/-- What a duty hands over may be kept in an invariant. -/
instance pay_storable (c : Dev nD) (k : Kind) (d : Fin 7) : BI.Storable (upEmb : UEmb _ 𝕄) (pay (F := F) m c k d) := by
  match k with
  | kBar => unfold pay; infer_instance
  | kD (dInn q) => unfold pay; infer_instance
  | kD (dOut q) => unfold pay; infer_instance
  | kD (dGb h) => by_cases hh : h = 0 <;> simp only [pay, hh, if_true, if_false] <;> infer_instance
  | kD (dSend q j) => unfold pay; infer_instance
  | kD (dRecv q j) => unfold pay; infer_instance

/-- How much a duty of a cell adds to its counter. -/
def amt : Kind → ℕ
  | kBar => 1
  | kD (dInn q) => (xFlat q).view.dmaCredit
  | kD (dOut q) => (outRow q).view.dmaCredit
  | kD (dGb h) => if h = 0 then gbufM.view.dmaCredit else bbufM.view.dmaCredit
  | kD (dSend q j) => (recvFlat q j).view.dmaCredit
  | kD (dRecv q j) => (recvFlat q j).view.dmaCredit

/-- Every duty brings at least one unit. -/
theorem amt_pos (k : Kind) : 0 < amt k := by
  match k with
  | kBar => exact Nat.one_pos
  | kD (dInn q) => exact View.dmaCredit_pos _ (by decide)
  | kD (dOut q) => exact View.dmaCredit_pos _ (by decide)
  | kD (dGb h) =>
    show 0 < if h = 0 then gbufM.view.dmaCredit else bbufM.view.dmaCredit
    split
    · exact View.dmaCredit_pos gbufM.view (by decide)
    · exact View.dmaCredit_pos bbufM.view (by decide)
  | kD (dSend q j) => exact View.dmaCredit_pos _ (by decide)
  | kD (dRecv q j) => exact View.dmaCredit_pos _ (by decide)

/-- The duties of a cell: seven at a barrier, one at a copy cell. -/
def dutiesOf : Kind → Finset (Fin 7)
  | kBar => Finset.univ
  | kD _ => {0}

/-- The schedule: each cell of each device has its one round. -/
def sched : Rounds.Schedule (GSem nD τ sig) (Fin 7) 𝕄 where
  duties g r := if r = 0 ∧ g.1.2 = .tc then dutiesOf (kindOf g.2) else ∅
  unitless _ := False
  amount g _ _ := amt (kindOf g.2)
  payload g _ d := pay m g.1.1 (kindOf g.2) d
  amount_pos g _ _ _ := amt_pos _

/-- What the schedule hands over may be kept in an invariant. -/
instance sched_storable (g : GSem nD τ sig) (r : ℕ) (d : Fin 7) :
    BI.Storable (upEmb : UEmb _ 𝕄) ((sched (F := F) m).payload g r d) := by
  show BI.Storable upEmb (pay m g.1.1 (kindOf g.2) d)
  infer_instance

/-- The duties of a cell's one round. -/
theorem duties_cell (c : Dev nD) (k : Kind) : (sched (F := F) m).duties (cell c k) 0 = dutiesOf k := by
  show (if (0 : ℕ) = 0 ∧ ((c : Thread nD τ)).2 = .tc then dutiesOf (kindOf (semOf k)) else ∅) = _
  rw [if_pos ⟨rfl, rfl⟩, kindOf_semOf]
/-- No cell has duties after its first round. -/
theorem duties_later (g : GSem nD τ sig) : ∀ r, 1 ≤ r → (sched (F := F) m).duties g r = ∅ :=
  fun r hr => by dsimp only [sched]; exact if_neg fun h => by omega
/-- The units that a duty of a cell brings. -/
theorem amount_cell (c : Dev nD) (k : Kind) (d : Fin 7) : (sched (F := F) m).amount (cell c k) 0 d = amt k := by
  show amt (kindOf (semOf k)) = _
  rw [kindOf_semOf]
/-- What a duty of a cell hands over. -/
theorem payload_cell (c : Dev nD) (k : Kind) (d : Fin 7) : (sched (F := F) m).payload (cell c k) 0 d = pay m c k d := by
  show pay m c (kindOf (semOf k)) d = _
  rw [kindOf_semOf]
/-- A copy cell's round expects the credit of its copy. -/
theorem expect_copy (c : Dev nD) (k : DKind) : (sched (F := F) m).expect (cell c (kD k)) 0 = amt (kD k) := by
  unfold Schedule.expect Schedule.amountOf
  rw [duties_cell]
  show ∑ d ∈ ({0} : Finset (Fin 7)), _ = _
  rw [Finset.sum_singleton, amount_cell]
/-- A barrier's round expects seven units. -/
theorem expect_bar (c : Dev nD) : (sched (F := F) m).expect (cell c kBar) 0 = 7 := by
  unfold Schedule.expect Schedule.amountOf
  rw [duties_cell, Finset.sum_congr rfl fun d _ => amount_cell m c kBar d]
  rfl
/-- All of a copy cell's round hands over what its one duty does. -/
theorem rest_copy (c : Dev nD) (k : DKind) :
    bigSep ((sched (F := F) m).duties (cell c (kD k)) 0 \ ∅) (fun d => (sched (F := F) m).payload (cell c (kD k)) 0 d) = pay m c (kD k) 0 := by
  rw [Finset.sdiff_empty, duties_cell]
  show bigSep ({0} : Finset (Fin 7)) _ = _
  rw [bigSep_singleton, payload_cell]
/-- All of a barrier's round hands over the landing slots of the seven peers. -/
theorem rest_bar (c : Dev nD) :
    bigSep ((sched (F := F) m).duties (cell c kBar) 0 \ ∅) (fun d => (sched (F := F) m).payload (cell c kBar) 0 d)
      = bigSep Finset.univ fun d : Fin 7 => bigSep Finset.univ fun q : Fin 4 => room (F := F) (tgt c d) (recvFlat q d) := by
  rw [Finset.sdiff_empty, duties_cell]
  exact bigSep_congr fun d _ => payload_cell m c kBar d

/-! ## What is owed, and the levels -/

/-- The credit that device `c`'s copies from the `n`-th on (counting row group by row group) bring their receive cells. -/
def sendTally (c : Dev nD) (i : ℕ) : CellTallies nD τ sig Unit :=
  if h : i < 28 then
    tallyAt (cell (tgt c ⟨i % 7, Nat.mod_lt _ (by decide)⟩) (kD (dRecv ⟨i / 7, by omega⟩ ⟨i % 7, Nat.mod_lt _ (by decide)⟩))) ()
      (amt (kD (dRecv ⟨i / 7, by omega⟩ ⟨i % 7, Nat.mod_lt _ (by decide)⟩)))
  else 0
/-- The credit that device `c`'s copies from the `n`-th on still bring. -/
def sendsFrom (c : Dev nD) (n : ℕ) : CellTallies nD τ sig Unit := ∑ i ∈ Finset.Ico n 28, sendTally c i
/-- The units that device `c`'s signals from the `n`-th on bring the peers' barrier cells. -/
def sigTally (c : Dev nD) (k : ℕ) : CellTallies nD τ sig Unit :=
  if h : k < 7 then tallyAt (cell (tgt c ⟨k, h⟩) kBar) () 1 else 0
/-- All copies' credit, and the units that device `c`'s signals from the `n`-th on still bring. -/
def sigsFrom (c : Dev nD) (n : ℕ) : CellTallies nD τ sig Unit := sendsFrom c 0 + ∑ k ∈ Finset.Ico n 7, sigTally c k
/-- All that device `c` owes at launch. -/
def O₀ (c : Dev nD) : CellTallies nD τ sig Unit := sigsFrom c 0

/-- Taking one copy off what is owed. -/
theorem sendsFrom_step (c : Dev nD) (q : Fin 4) (j : Fin 7) :
    sendsFrom c (7 * q.val + j.val) = sendsFrom c (7 * q.val + (j.val + 1)) + tallyAt (cell (tgt c j) (kD (dRecv q j))) () (amt (kD (dRecv q j))) := by
  have hq := q.isLt
  have hj := j.isLt
  unfold sendsFrom
  rw [Finset.sum_eq_sum_Ico_succ_bot (by omega), add_comm, ← add_assoc]
  refine congrArg _ ?_
  unfold sendTally
  rw [dif_pos (by omega)]
  have h1 : (⟨(7 * q.val + j.val) % 7, Nat.mod_lt _ (by decide)⟩ : Fin 7) = j := Fin.ext (by show _ % 7 = j.val; omega)
  have h2 : (⟨(7 * q.val + j.val) / 7, by omega⟩ : Fin 4) = q := Fin.ext (by show _ / 7 = q.val; omega)
  rw [h1, h2]
/-- After the last copy nothing is owed. -/
theorem sendsFrom_end (c : Dev nD) : sendsFrom c 28 = 0 := by unfold sendsFrom; rw [Finset.Ico_self, Finset.sum_empty]
/-- Taking one signal off what is owed. -/
theorem sigsFrom_step (c : Dev nD) (k : Fin 7) : sigsFrom c k.val = sigsFrom c (k.val + 1) + tallyAt (cell (tgt c k) kBar) () 1 := by
  unfold sigsFrom
  rw [Finset.sum_eq_sum_Ico_succ_bot k.isLt, add_comm (sigTally c k.val), ← add_assoc]
  refine congrArg _ ?_
  unfold sigTally
  rw [dif_pos k.isLt]
/-- After the last signal only the copies' credit is owed. -/
theorem sigsFrom_end (c : Dev nD) : sigsFrom c 7 = sendsFrom c 0 := by
  unfold sigsFrom; rw [Finset.Ico_self, Finset.sum_empty, add_zero]

/-- What owes anything after the signals is a receive cell. -/
theorem sendsFrom_pos {c : Dev nD} {n : ℕ} {g : GSem nD τ sig} {u : Unit} (h : 0 < sendsFrom c n g u) :
    ∃ d q j, g = cell d (kD (dRecv q j)) := by
  unfold sendsFrom at h
  rw [Finset.sum_apply, Finsupp.finset_sum_apply] at h
  obtain ⟨i, -, hi⟩ := Finset.exists_ne_zero_of_sum_ne_zero (Nat.ne_of_gt h)
  unfold sendTally at hi
  split at hi
  · rw [tallyAt_apply] at hi
    by_contra hn
    rw [if_neg (fun h' => hn ⟨_, _, _, h'.1⟩)] at hi
    exact hi rfl
  · exact absurd rfl hi
/-- What is owed anything at launch is a receive cell or a barrier. -/
theorem O₀_pos {c : Dev nD} {g : GSem nD τ sig} {u : Unit} (h : 0 < O₀ c g u) :
    (∃ d q j, g = cell d (kD (dRecv q j))) ∨ ∃ d, g = cell d kBar := by
  unfold O₀ sigsFrom at h
  rw [Pi.add_apply, Finsupp.add_apply] at h
  rcases Nat.eq_zero_or_pos (sendsFrom c 0 g u) with h0 | h0
  · rw [h0, Nat.zero_add, Finset.sum_apply, Finsupp.finset_sum_apply] at h
    obtain ⟨i, -, hi⟩ := Finset.exists_ne_zero_of_sum_ne_zero (Nat.ne_of_gt h)
    unfold sigTally at hi
    split at hi
    · rw [tallyAt_apply] at hi
      by_contra hn
      rw [if_neg (fun h' => hn (.inr ⟨_, h'.1⟩))] at hi
      exact hi rfl
    · exact absurd rfl hi
  · exact .inl (sendsFrom_pos h0)

/-- The tallies kept of a cell: one for each cell of a device's core. -/
def L (g : GSem nD τ sig) : Finset Unit := if g.1.2 = .tc then {()} else ∅
/-- The level of a cell: a barrier's is 1, a receive cell's 2, every other's 0. -/
def levelOf : Kind → ℕ
  | kBar => 1
  | kD (dRecv _ _) => 2
  | _ => 0
/-- The level of a semaphore's cell. -/
def lv (g : GSem nD τ sig) (_ : Unit) : ℕ := levelOf (kindOf g.2)

/-- Cells of other cores have no tally. -/
theorem L_of_ne (g : GSem nD τ sig) (h : g.1.2 ≠ .tc) : L g = ∅ := if_neg h
/-- Cells of a device's core have their one tally. -/
theorem L_tc (c : Dev nD) (sm : SemLoc sig) : L ((c : Thread nD τ), sm) = {()} := if_pos rfl
/-- The level of a cell is that of its kind. -/
theorem lv_cell (c : Dev nD) (k : Kind) (u : Unit) : lv (cell c k) u = levelOf k := by unfold lv; rw [kindOf_semOf]

/-- A device owing receive credits only may wait on any of its cells below the receive cells. -/
theorem mayWait_sends (c : Dev nD) (k : Kind) (hk : levelOf k < 2) (n : ℕ) :
    (levAts L lv : sProp 𝕄) ⊢ MayWait (c : Thread nD τ) (semOf k) () (sendsFrom c n) :=
  MayOwe.of_cut (L := L) (lev := lv) 1 (fun p hp => by rw [Finset.mem_singleton.mp hp, L_tc]; exact Finset.mem_singleton_self _)
    (fun g u hg => by obtain ⟨d, q, j, rfl⟩ := sendsFrom_pos hg; rw [L_tc]; exact Finset.mem_singleton_self _)
    (fun p hp => by rw [Finset.mem_singleton.mp hp]; exact Nat.le_of_lt_succ (by rw [lv_cell c k ()]; exact hk))
    (fun g u hg => by obtain ⟨d, q, j, rfl⟩ := sendsFrom_pos hg; rw [lv_cell]; exact Nat.one_lt_two)

end Cert.KernelIdealRun

end
-- ==== Proof.KernelIdealSteps.lean ====
/-
# The steps

For each step of the program, what it needs and what it gives. The rule for `rep` turns a step's statement at one index
into the statement of the loop.
-/
module

public import proofs.«01_k».proof.Proof.KernelIdealProtocol
public import Mathlib.Data.Fintype.Sum
public import Mathlib.Data.Fintype.Prod

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No measure for repeated calls is used. -/
abbrev 𝒱₀ : Variants := Variants.none

/-- The statement that a program, run by device `c`, ends with `Q`. -/
abbrev run {α : Type} (c : Dev nD) (p : P F α) (Q : α → sProp 𝕄) : sProp 𝕄 :=
  wp frame (wpE (defs₀ (F := F)) 𝒱₀ (c : Thread nD τ) none) Set.univ p Q

/-! ## Sequence and loop -/

/-- If `p` ends with `B`, and from `B` the rest ends with `Q`, then `p` and the rest end with `Q`. -/
theorem run_seq {α β : Type} {c : Dev nD} {p : P F α} {k : α → P F β} {A : sProp 𝕄} {B : α → sProp 𝕄} {Q : β → sProp 𝕄}
    (h : A ⊢ run c p B) (h' : ∀ a, B a ⊢ run c (k a) Q) : A ⊢ run c (p >>= k) Q := by
  exact (h.trans (wp_mono _ _ _ h')).trans (Entails.of_eq (wp_bind _ _ _ p k Q).symm)

/-- A step whose statement is known, inside a proof: what it needs is given up, and what it gives is had afterwards. -/
theorem run_use {β : Type} {c : Dev nD} {p : P F PUnit} {k : PUnit → P F β} {A B : sProp 𝕄} {Q : β → sProp 𝕄}
    (h : A ⊢ run c p (fun _ => B)) : A ⊢ iprop((B -∗ run c (k ⟨⟩) Q) -∗ run c (p >>= k) Q) := by
  refine BIClass.wand_intro ((sep_mono_left h).trans ((wp_frame_r _ _ _).trans (run_seq .rfl fun _ => ?_)))
  iintro ⟨HB, HW⟩
  iapply HW
  iexact HB
/-- The same for the last step. -/
theorem run_last {c : Dev nD} {p : P F PUnit} {A B : sProp 𝕄} {Q : PUnit → sProp 𝕄}
    (h : A ⊢ run c p (fun _ => B)) : A ⊢ iprop((B -∗ Q ⟨⟩) -∗ run c p Q) := by
  refine BIClass.wand_intro ((sep_mono_left h).trans ((wp_frame_r _ _ _).trans (wp_mono _ _ _ fun _ => ?_)))
  iintro ⟨HB, HW⟩
  iapply HW
  iexact HB

/-- If a program ends with `B`, and `B` gives `Q`, then it ends with `Q`. -/
theorem run_post {α : Type} {c : Dev nD} {p : P F α} {A : sProp 𝕄} {B Q : α → sProp 𝕄}
    (h : A ⊢ run c p B) (h' : ∀ a, B a ⊢ Q a) : A ⊢ run c p Q := h.trans (wp_mono _ _ _ h')

/-- What a program does not need is had unchanged at its end. -/
theorem run_frame {α : Type} {c : Dev nD} {p : P F α} {A : sProp 𝕄} {B : α → sProp 𝕄} (R : sProp 𝕄)
    (h : A ⊢ run c p B) : iprop(A ∗ R) ⊢ run c p (fun a => iprop(B a ∗ R)) := by
  exact (sep_mono_left h).trans (wp_frame_r _ _ _)

/-- A program that only returns `a` ends with `Q` when `Q` holds of `a`. -/
theorem run_ret {α : Type} {c : Dev nD} {a : α} {Q : α → sProp 𝕄} : Q a ⊢ run c (pure a : P F α) Q := by
  unfold run
  rw [Prog.pure_eq_ret, wp_ret]
  iintro H
  imodintro
  iexact H

/-- A family over `n + 1` indices is its first member and the rest. -/
theorem bigSep_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]; rfl

/-- Two families side by side are one family of pairs. -/
theorem zip {n : ℕ} {A B : Fin n → sProp 𝕄} :
    iprop(bigSep Finset.univ A ∗ bigSep Finset.univ B) ⊢ bigSep Finset.univ fun i => iprop(A i ∗ B i) :=
  Entails.of_eq (bigSep_sep Finset.univ A B).symm
/-- One family of pairs is two families side by side. -/
theorem unzip {n : ℕ} {A B : Fin n → sProp 𝕄} :
    (bigSep Finset.univ fun i => iprop(A i ∗ B i)) ⊢ iprop(bigSep Finset.univ A ∗ bigSep Finset.univ B) :=
  Entails.of_eq (bigSep_sep Finset.univ A B)

/-- Full ownership is the share kept and the seven shares lent. -/
theorem shares_split {ℓ : Loc nD τ sig} (I : Finset (Idx ℓ)) (f : Buf (Elt F) ℓ) :
    (ℓ ↦[I]{fullShare} f : sProp 𝕄)
      = iprop((ℓ ↦[I]{lent 0} f) ∗ bigSep Finset.univ fun j : Fin 7 => ℓ ↦[I]{lent j.succ} f) := by
  rw [ShareLeaves.pointsTo_leaves I f 3 fullShare]
  exact bigSep_succ (n := 7) fun i => (ℓ ↦[I]{lent i} f : sProp 𝕄)

/-- Full ownership of a view is the share kept and the seven shares lent. -/
theorem held_split {sp : Space} {sh : Shape} {e : EltTy} {c : Dev nD} {M : Memref sig .tc sp sh e} (f : M.view.ty.Contents (Elt F)) :
    (held c M fullShare f : sProp 𝕄) = iprop(held c M (lent 0) f ∗ bigSep Finset.univ fun j : Fin 7 => held c M (lent j.succ) f) :=
  shares_split (ℓ := M.view.loc (c : Thread nD τ)) M.view.set f

/-- A loop turns every `A i` into `B i`, while `R` goes from its state before the first step to that after the last. -/
theorem run_rep (c : Dev nD) : ∀ (n : ℕ) (f : Fin n → P F PUnit) (A B : Fin n → sProp 𝕄) (R : ℕ → sProp 𝕄),
    (∀ i, iprop(A i ∗ R i.val) ⊢ run c (f i) (fun _ => iprop(B i ∗ R (i.val + 1)))) →
    iprop(bigSep Finset.univ A ∗ R 0) ⊢ run c (rep n f) (fun _ => iprop(bigSep Finset.univ B ∗ R n))
  | 0, f, A, B, R, h => by
    refine BIBase.Entails.trans ?_ run_ret
    rw [Finset.univ_eq_empty, bigSep_empty, bigSep_empty]
  | n + 1, f, A, B, R, h => by
    have h0 : iprop(A 0 ∗ R 0) ⊢ run c (f 0) (fun _ => iprop(B 0 ∗ R 1)) := h 0
    have ih := run_rep c n (fun i => f i.succ) (fun i => A i.succ) (fun i => B i.succ) (fun k => R (k + 1)) (fun i => h i.succ)
    show _ ⊢ run c (f 0 >>= fun _ => rep n fun i => f i.succ) _
    refine run_seq (B := fun _ => iprop((B 0 ∗ R 1) ∗ bigSep Finset.univ fun i : Fin n => A i.succ)) ?_ fun _ => ?_
    · refine BIBase.Entails.trans ?_ (run_frame _ h0)
      rw [bigSep_succ]
      iintro ⟨⟨HA, HAs⟩, HR⟩
      isplitl [HA HR]
      · isplitl [HA]
        · iexact HA
        · iexact HR
      iexact HAs
    · refine BIBase.Entails.trans ?_ (run_post (run_frame (B 0) ih) fun _ => ?_)
      · iintro ⟨⟨HB, HR⟩, HA⟩
        isplitl [HR HA]
        · isplitl [HA]
          · iexact HA
          · iexact HR
        iexact HB
      · rw [bigSep_succ (n := n) B]
        iintro ⟨⟨HBs, HR⟩, HB⟩
        isplitl [HBs HB]
        · isplitl [HB] <;> iassumption
        iexact HR

/-! ## What every step may use -/

section Ctx

variable (m : (ℓ : Loc nD τ sig) → Buf (Elt F) ℓ) (K : Dev nD × Kind → ℕ)

/-- The cells' invariants and that every cell has reached its round. -/
def records : sProp 𝕄 :=
  iprop((bigSep Finset.univ fun ck : Dev nD × Kind => cellInv ER (sched m) (K ck) (cell ck.1 ck.2))
    ∗ bigSep Finset.univ fun ck : Dev nD × Kind => reached ER (cell ck.1 ck.2) 0)
/-- The records may be used any number of times. -/
instance records_persistent : BI.Persistent (records m K) := by unfold records; infer_instance
/-- These and the levels. -/
def ctx : sProp 𝕄 := iprop(records m K ∗ levAts L lv)
/-- The context may be used any number of times. -/
instance ctx_persistent : BI.Persistent (ctx m K) := by unfold ctx; infer_instance

/-- The context has each cell's invariant. -/
theorem ctx_inv (c : Dev nD) (k : Kind) : ctx m K ⊢ cellInv ER (sched m) (K (c, k)) (cell c k) := by
  unfold ctx records
  iintro ⟨⟨HI, -⟩, -⟩
  ihave H := (show (bigSep Finset.univ fun ck : Dev nD × Kind => (cellInv ER (sched m) (K ck) (cell ck.1 ck.2) : sProp 𝕄))
    ⊢ cellInv ER (sched m) (K (c, k)) (cell c k) from bigSep_elim (Finset.mem_univ (c, k))) $$ HI
  iexact H
/-- The context has each cell's round mark. -/
theorem ctx_reached (c : Dev nD) (k : Kind) : ctx m K ⊢ reached ER (cell c k) 0 := by
  unfold ctx records
  iintro ⟨⟨-, HR⟩, -⟩
  ihave H := (show (bigSep Finset.univ fun ck : Dev nD × Kind => (reached ER (cell ck.1 ck.2) 0 : sProp 𝕄))
    ⊢ reached ER (cell c k) 0 from bigSep_elim (Finset.mem_univ (c, k))) $$ HR
  iexact H
/-- The context has the levels. -/
theorem ctx_levels : ctx m K ⊢ levAts L lv := by
  unfold ctx
  iintro ⟨-, H⟩
  iexact H

/-- What a device owes, whatever it has waited on. -/
def owed (c : Dev nD) (O : CellTallies nD τ sig Unit) : sProp 𝕄 := iprop(∃ W, owes (c : Thread nD τ) O W)

/-- A copy cell before its wait: the position, and the credit. -/
def pending (c : Dev nD) (k : DKind) : sProp 𝕄 :=
  iprop(atPos ER (cell c (kD k)) 0 ∅ 0 ∗ cred (tallyAt (cell c (kD k)) () (amt (kD k))))

/-- A copy cell before its copy: the position, and the token of its duty. -/
def fresh (c : Dev nD) (k : DKind) : sProp 𝕄 :=
  iprop(dutyTok ER (cell c (kD k)) 0 0 ∗ atPos ER (cell c (kD k)) 0 ∅ 0)

/-- A copy within the device: the source and the room for it go in, the credit for its wait comes out. -/
theorem run_copy (c : Dev nD) (k : DKind) {sp sp' : Space} {s : Shape} {e : EltTy} {src : Memref sig ((c : Thread nD τ).2.kind) sp s e}
    {dst : Memref sig ((c : Thread nD τ).2.kind) sp' s e}
    {hsrc : src.view.WordExact} {hdst : dst.view.WordExact} {hsem : DmaTarget.Typed (nD := nD) sp (semOf (kD k)) (.here dst)}
    (fs : src.view.ty.Contents (Elt F)) (hN : dst.view.amount (semOf (kD k)) = amt (kD k))
    (hpay : ∀ fd : dst.view.ty.Contents (Elt F),
      iprop(held c dst fullShare (dst.view.write (Elt F) fd (src.view.read (Elt F) fs) Finset.univ) ∗ held c src fullShare fs) ⊢ pay m c (kD k) 0) :
    iprop(ctx m K ∗ held c src fullShare fs ∗ room (F := F) c dst ∗ fresh (F := F) c k)
      ⊢ run c (Prog.lift (.enqueueDma src (.here dst) (semOf (kD k)) hsrc hdst hsem))
          (fun _ => pending (F := F) c k) := by
  unfold run room Prog.lift fresh
  iintro ⟨#HC, Hs, ⟨%fd, Hd⟩, Ht, Ha⟩
  iapply (Rounds.wp_copy_pointsTo 𝒱₀ ER (sched m) (c : Thread nD τ) none (κ := K (c, kD k)) (r := 0) (d := 0) (fs := fs) (fd := fd)
    (by rw [duties_cell]; exact Finset.mem_singleton_self _) () (amt (kD k)) hN (amount_cell m c (kD k) 0)
    (by rw [payload_cell]; exact hpay fd)) $$ [Hs Hd Ht]
  · isplitr; · iapply (ctx_inv m K c (kD k)); iexact HC
    isplitl [Hs]; · iexact Hs
    isplitl [Hd]; · iexact Hd
    isplitl [Ht]; · iexact Ht
    iapply (ctx_reached m K c (kD k)); iexact HC
  iintro Hc
  rw [wp_ret]; imodintro
  unfold pending
  isplitl [Ha]
  · iexact Ha
  iexact Hc

/-- The wait on a copy cell of the device's own: what the copy hands over comes out, and the cell is closed. -/
theorem run_wait (c : Dev nD) (k : DKind) (O : CellTallies nD τ sig Unit)
    (hO : (levAts L lv : sProp 𝕄) ⊢ MayWait (c : Thread nD τ) (semOf (kD k)) () O)
    {w : TpuEff nD τ sig (Elt F) Λ₀ .tc PUnit}
    (hw : ∀ Q : PUnit → sProp 𝕄, wpE (defs₀ (F := F)) 𝒱₀ (c : Thread nD τ) none Set.univ w Q
      = waitSpec (c : Thread nD τ) Set.univ (semOf (kD k)) (amt (kD k)) Q) :
    iprop(ctx m K ∗ pending (F := F) c k ∗ owed (F := F) c O)
      ⊢ run c (Prog.lift w) (fun _ => iprop((pay m c (kD k) 0 ∗ semVal (cell c (kD k)) 0) ∗ owed (F := F) c O)) := by
  unfold run owed pending Prog.lift
  iintro ⟨#HC, ⟨Hat, Hc⟩, ⟨%W, HO⟩⟩
  iapply (Rounds.wp_wait_rest_token 𝒱₀ ER (sched m) (c : Thread nD τ) none (κ := K (c, kD k)) hw (Set.mem_univ _) () (O := O) (W := W)
    (R := 0) (m := 0) (T := ∅) (by rw [Nat.zero_add]; exact (expect_copy m c k).symm)) $$ [Hat Hc HO]
  · isplitr; · iapply (ctx_inv m K c (kD k)); iexact HC
    isplitl [Hc]; · iexact Hc
    isplitl [HO]; · iexact HO
    isplitr; · iapply hO; iapply (ctx_levels m K); iexact HC
    iexact Hat
  iintro ⟨HO, Hat, -, Hpay⟩
  ihave Hp := (Entails.of_eq (rest_copy m c k)) $$ Hpay
  imod (Rounds.cell_close ER (sched m) (Set.mem_univ (K (c, kD k))) (fun h => h) (R := 0 + 1) (duties_later m (cell c (kD k)))) $$ [Hat] with Hz
  · isplitr; · iapply (ctx_inv m K c (kD k)); iexact HC
    iexact Hat
  rw [wp_ret]; imodintro
  isplitl [Hp Hz]
  · isplitl [Hp] <;> iassumption
  iexists _; iexact HO

/-- A loop whose steps also use what every step may use. -/
theorem run_loop {c : Dev nD} {n : ℕ} {f : Fin n → P F PUnit} {A B : Fin n → sProp 𝕄} (R : ℕ → sProp 𝕄)
    (h : ∀ i, iprop(ctx m K ∗ A i ∗ R i.val) ⊢ run c (f i) (fun _ => iprop(B i ∗ R (i.val + 1)))) :
    iprop(ctx m K ∗ bigSep Finset.univ A ∗ R 0) ⊢ run c (rep n f) (fun _ => iprop(bigSep Finset.univ B ∗ R n)) := by
  have key := run_rep c n f A B (fun i => iprop(ctx m K ∗ R i)) fun i => by
    iintro ⟨HA, #HC, HR⟩
    iapply (run_last (h i)) $$ [HA HR]
    · isplitr; · iexact HC
      isplitl [HA]; · iexact HA
      iexact HR
    iintro ⟨HB, HR⟩
    isplitl [HB]; · iexact HB
    isplitr; · iexact HC
    iexact HR
  iintro ⟨#HC, HA, HR⟩
  iapply (run_last key) $$ [HA HR]
  · isplitl [HA]; · iexact HA
    isplitr; · iexact HC
    iexact HR
  iintro ⟨HB, -, HR⟩
  isplitl [HB]; · iexact HB
  iexact HR

/-- A loop whose steps hand nothing on. -/
theorem run_each {c : Dev nD} {n : ℕ} {f : Fin n → P F PUnit} {A B : Fin n → sProp 𝕄}
    (h : ∀ i, iprop(ctx m K ∗ A i) ⊢ run c (f i) (fun _ => B i)) :
    iprop(ctx m K ∗ bigSep Finset.univ A) ⊢ run c (rep n f) (fun _ => bigSep Finset.univ B) := by
  have key := run_loop m K (c := c) (f := f) (A := A) (B := B) (fun _ => iprop(emp)) fun i => by
    iintro ⟨#HC, HA, -⟩
    iapply (run_last (h i)) $$ [HA]
    · isplitr; · iexact HC
      iexact HA
    iintro HB
    isplitl [HB]; · iexact HB
    iempintro
  iintro ⟨#HC, HA⟩
  iapply (run_last key) $$ [HA]
  · isplitr; · iexact HC
    isplitl [HA]; · iexact HA
    iempintro
  iintro ⟨HB, -⟩
  iexact HB

end Ctx

end Cert.KernelIdealRun

end
-- ==== Proof.KernelIdealMoves.lean ====
/-
# The statement of each step

What each step of the program needs and gives, at a row group `q` and a peer `j`.
-/
module

public import proofs.«01_k».proof.Proof.KernelIdealSteps

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sets of elements -/

/-- The elements of a flat slot of the buffer of `x` are those of the slot. -/
theorem set_xFlat (q : Fin 4) : ((xFlat q).view.set : Finset S4x512x1024.Idx) = (rGrp q).set :=
  (View.set_reshape _ _).trans (View.set_slice_whole _ _)
/-- The elements of a flat slot of the result's buffer are those of the slot. -/
theorem set_oFlat (q : Fin 4) : ((oFlat q).view.set : Finset S4x512x1024.Idx) = (rGrp q).set :=
  (View.set_reshape _ _).trans (View.set_slice_whole _ _)
/-- The elements of a flat landing slot are those of the slot. -/
theorem set_recv (q : Fin 4) (j : Fin 7) : ((recvFlat q j).view.set : Finset S4x7x2x512.Idx) = (rSlot q j).set :=
  (View.set_reshape _ _).trans (View.set_slice_whole _ _)
/-- The elements of a row group of `x` are those of its rows. -/
theorem set_xRow (q : Fin 4) : ((xRow q).view.set : Finset S2048x1024.Idx) = (rRow q).set := View.set_slice_whole _ _
/-- The elements of a row group of the result are those of its rows. -/
theorem set_outRow (q : Fin 4) : ((outRow q).view.set : Finset S2048x1024.Idx) = (rRow q).set := View.set_slice_whole _ _
/-- The elements that a whole buffer's view has under a set are the set. -/
theorem setOn_whole (b : Ref sig .tc) (R : Finset b.ty.shape.Idx) : ((Memref.whole b).view.setOn R : Finset b.ty.shape.Idx) = R :=
  Finset.map_refl

/-- Contents that agree on the view's elements may be exchanged. -/
theorem held_congr {sp : Space} {sh : Shape} {e : EltTy} {c : Dev nD} {M : Memref sig .tc sp sh e} {s : PosShare TreeShare}
    {f g : M.view.ty.Contents (Elt F)} (h : ∀ i ∈ M.view.set, f i = g i) : (held c M s f : sProp 𝕄) = held c M s g :=
  pointsTo_congr h

section Moves

variable (m : (ℓ : Loc nD τ sig) → Buf (Elt F) ℓ) (K : Dev nD × Kind → ℕ)

/-! ## Copies within the device -/

/-- Starting the copy of a row group of `x` hands the rows and the slot to the copy's cell. -/
theorem run_startIn (c : Dev nD) (q : Fin 4) :
    iprop(ctx m K ∗ (held c (xRow q) fullShare (xArr m c) ∗ room (F := F) c (xFlat q) ∗ fresh (F := F) c (dInn q)))
      ⊢ run c (startIn q) (fun _ => pending (F := F) c (dInn q)) :=
  run_copy m K c (dInn q) (src := xRow q) (dst := xFlat q) (xArr m c) rfl fun fd =>
    sep_mono_left (Entails.of_eq (held_congr (write_eq_on (xFlat q).view fd (xBuf m c) _ (read_x m c q))))

/-- Starting the copy of γ hands γ and its buffer to the copy's cell. -/
theorem run_startGamma (c : Dev nD) :
    iprop(ctx m K ∗ held c gammaM fullShare (gammaArr m c) ∗ room (F := F) c gbufM ∗ fresh (F := F) c (dGb 0))
      ⊢ run c startGamma (fun _ => pending (F := F) c (dGb 0)) :=
  run_copy m K c (dGb 0) (src := gammaM) (dst := gbufM) (gammaArr m c) rfl fun fd =>
    sep_mono_left (Entails.of_eq (held_congr (write_eq_on gbufM.view fd (gammaArr m c) _ rfl)))

/-- Starting the copy of β hands β and its buffer to the copy's cell. -/
theorem run_startBeta (c : Dev nD) :
    iprop(ctx m K ∗ held c betaM fullShare (betaArr m c) ∗ room (F := F) c bbufM ∗ fresh (F := F) c (dGb 1))
      ⊢ run c startBeta (fun _ => pending (F := F) c (dGb 1)) :=
  run_copy m K c (dGb 1) (src := betaM) (dst := bbufM) (betaArr m c) rfl fun fd =>
    sep_mono_left (Entails.of_eq (held_congr (write_eq_on bbufM.view fd (betaArr m c) _ rfl)))

/-- Starting the copy of a block of the result hands the slot and the rows to the copy's cell. -/
theorem run_startOut (c : Dev nD) (q : Fin 4) :
    iprop(ctx m K ∗ held c (oFlat q) fullShare (oBuf m c) ∗ room (F := F) c (outRow q) ∗ fresh (F := F) c (dOut q))
      ⊢ run c (startOut q) (fun _ => pending (F := F) c (dOut q)) :=
  run_copy m K c (dOut q) (src := oFlat q) (dst := outRow q) (oBuf m c) rfl fun fd =>
    sep_mono_left (Entails.of_eq (held_congr (write_eq_on (outRow q).view fd (outArr m c) _ (read_out m c q))))

/-! ## Waits on the device's own copies -/

/-- While receive credits are owed, a device may wait on a cell below the receive cells. -/
theorem wait_owing (c : Dev nD) (k : DKind) (hk : levelOf (kD k) < 2) (n : ℕ) :
    (levAts L lv : sProp 𝕄) ⊢ MayWait (c : Thread nD τ) (semOf (kD k)) () (sendsFrom c n) := mayWait_sends c (kD k) hk n
/-- A device that owes nothing may wait on any of its copy cells. -/
theorem wait_free (c : Dev nD) (k : DKind) : (levAts L lv : sProp 𝕄) ⊢ MayWait (c : Thread nD τ) (semOf (kD k)) () 0 := by
  rw [MayWait_zero]; iintro -; iempintro

/-- Waiting for a row group of `x` gives the slot, filled with the rows, and the rows back. -/
theorem run_waitIn (c : Dev nD) (q : Fin 4) (n : ℕ) :
    iprop(ctx m K ∗ pending (F := F) c (dInn q) ∗ owed (F := F) c (sendsFrom c n))
      ⊢ run c (waitIn q) (fun _ => iprop(((held c (xFlat q) fullShare (xBuf m c) ∗ held c (xRow q) fullShare (xArr m c)) ∗ semVal (cell c (kD (dInn q))) 0) ∗ owed (F := F) c (sendsFrom c n))) :=
  run_wait m K c (dInn q) _ (wait_owing c _ (by show 0 < 2; decide) n) fun Q => (wpE_waitDma2_eq 𝒱₀ (c : Thread nD τ) none Set.univ Q).trans rfl
/-- Waiting for γ gives its buffer, filled, and γ back. -/
theorem run_waitGamma (c : Dev nD) :
    iprop(ctx m K ∗ pending (F := F) c (dGb 0) ∗ owed (F := F) c 0)
      ⊢ run c waitGamma (fun _ => iprop(((held c gbufM fullShare (gammaArr m c) ∗ held c gammaM fullShare (gammaArr m c)) ∗ semVal (cell c (kD (dGb 0))) 0) ∗ owed (F := F) c 0)) :=
  run_wait m K c (dGb 0) _ (wait_free c _) fun Q => (wpE_waitDma2_eq 𝒱₀ (c : Thread nD τ) none Set.univ Q).trans rfl
/-- Waiting for β gives its buffer, filled, and β back. -/
theorem run_waitBeta (c : Dev nD) :
    iprop(ctx m K ∗ pending (F := F) c (dGb 1) ∗ owed (F := F) c 0)
      ⊢ run c waitBeta (fun _ => iprop(((held c bbufM fullShare (betaArr m c) ∗ held c betaM fullShare (betaArr m c)) ∗ semVal (cell c (kD (dGb 1))) 0) ∗ owed (F := F) c 0)) :=
  run_wait m K c (dGb 1) _ (wait_free c _) fun Q => (wpE_waitDma2_eq 𝒱₀ (c : Thread nD τ) none Set.univ Q).trans rfl
/-- Waiting for a peer's statistics gives the landing slot, filled with them. -/
theorem run_waitRecv (c : Dev nD) (q : Fin 4) (j : Fin 7) :
    iprop(ctx m K ∗ pending (F := F) c (dRecv q j) ∗ owed (F := F) c 0)
      ⊢ run c (waitRecv q j) (fun _ => iprop((held c (recvFlat q j) fullShare (recvBuf m c) ∗ semVal (cell c (kD (dRecv q j))) 0) ∗ owed (F := F) c 0)) :=
  run_wait m K c (dRecv q j) _ (wait_free c _) fun Q => (wpE_waitDma2_eq 𝒱₀ (c : Thread nD τ) none Set.univ Q).trans rfl
/-- Waiting for a copy out gives the rows of the result, filled, and the slot back. -/
theorem run_waitOut (c : Dev nD) (q : Fin 4) :
    iprop(ctx m K ∗ pending (F := F) c (dOut q) ∗ owed (F := F) c 0)
      ⊢ run c (waitOut q) (fun _ => iprop(((held c (outRow q) fullShare (outArr m c) ∗ held c (oFlat q) fullShare (oBuf m c)) ∗ semVal (cell c (kD (dOut q))) 0) ∗ owed (F := F) c 0)) :=
  run_wait m K c (dOut q) _ (wait_free c _) fun Q => (wpE_waitDma2_eq 𝒱₀ (c : Thread nD τ) none Set.univ Q).trans rfl
/-- Waiting for a send gives back the share of the statistics that was lent to it. -/
theorem run_waitSend (c : Dev nD) (q : Fin 4) (j : Fin 7) :
    iprop(ctx m K ∗ pending (F := F) c (dSend q j) ∗ owed (F := F) c 0)
      ⊢ run c (waitSend q j) (fun _ => iprop((held c (ownFlat q) (lent j.succ) (ownBuf m c) ∗ semVal (cell c (kD (dSend q j))) 0) ∗ owed (F := F) c 0)) :=
  run_wait m K c (dSend q j) _ (wait_free c _) fun Q => (wpE_waitDma2_eq 𝒱₀ (c : Thread nD τ) none Set.univ Q).trans rfl

/-! ## The barrier -/

/-- What the signal to the `k`-th peer hands over, as the peer's cell states it. -/
theorem signal_pay (c : Dev nD) (k : Fin 7) :
    (bigSep Finset.univ fun q : Fin 4 => room (F := F) c (recvFlat q k.rev)) ⊢ (sched m).payload ((tgt c k : Thread nD τ), SemLoc.reg barS) 0 k.rev := by
  refine BIBase.Entails.trans ?_ (Entails.of_eq (payload_cell m (tgt c k) kBar k.rev).symm)
  show _ ⊢ bigSep Finset.univ fun q : Fin 4 => room (F := F) (tgt (tgt c k) k.rev) (recvFlat q k.rev)
  rw [tgt_rev]

/-- A signal hands its peer the four slots that the peer's copies land in. -/
theorem run_signal (c : Dev nD) (k : Fin 7) :
    iprop(ctx m K ∗ ((bigSep Finset.univ fun q : Fin 4 => room (F := F) c (recvFlat q k.rev)) ∗ dutyTok ER (cell (tgt c k) kBar) 0 k.rev)
        ∗ owed (F := F) c (sigsFrom c k.val))
      ⊢ run c (signal c k) (fun _ => iprop(emp ∗ owed (F := F) c (sigsFrom c (k.val + 1)))) := by
  unfold run owed signal
  rw [sigDev_eq]
  simp only [semSignalWord, Prog.lift, Prog.bind_op, Prog.bind_ret, Prog.pure_eq_ret]
  iintro ⟨#HC, ⟨Hr, Ht⟩, ⟨%W, HO⟩⟩
  iapply (Rounds.wp_signal 𝒱₀ ER (sched m) (c : Thread nD τ) none (dst := (tgt c k : Thread nD τ)) (κ := K (tgt c k, kBar))
      (d := k.rev) ((duties_cell m (tgt c k) kBar).symm ▸ Finset.mem_univ k.rev) ((amount_cell m (tgt c k) kBar k.rev).trans (by decide)) ()
      (sigsFrom c (k.val + 1)) (sigsFrom_step c k)) $$ [HO Ht Hr]
  · isplitr; · iapply (ctx_inv m K (tgt c k) kBar); iexact HC
    isplitl [HO]; · iexact HO
    isplitl [Ht]; · iexact Ht
    isplitl [Hr]
    · iapply (signal_pay m c k); iexact Hr
    · iapply (ctx_reached m K (tgt c k) kBar); iexact HC
  iintro HO
  rw [wp_ret]; imodintro
  isplitr; · iempintro
  iexists W; iexact HO

/-- The wait for the seven peers brings the slots on them, and closes the barrier cell. -/
theorem run_waitBar (c : Dev nD) :
    iprop(ctx m K ∗ (atPos ER (cell c kBar) 0 ∅ 0 ∗ cred (tallyAt (cell c kBar) () 7)) ∗ owed (F := F) c (sendsFrom c 0))
      ⊢ run c waitBar (fun _ => iprop(((bigSep Finset.univ fun d : Fin 7 => bigSep Finset.univ fun q : Fin 4 => room (F := F) (tgt c d) (recvFlat q d))
          ∗ semVal (cell c kBar) 0) ∗ owed (F := F) c (sendsFrom c 0))) := by
  unfold run owed waitBar
  simp only [semWaitWord, Prog.lift, Prog.bind_op, Prog.bind_ret, Prog.pure_eq_ret]
  iintro ⟨#HC, ⟨Hat, Hc⟩, ⟨%W, HO⟩⟩
  iapply (Rounds.wp_wait_rest_token 𝒱₀ ER (sched m) (c : Thread nD τ) none (κ := K (c, kBar)) (wpE_semWait_eq 𝒱₀ (c : Thread nD τ) none Set.univ) (Set.mem_univ _) ()
    (O := sendsFrom c 0) (W := W) (R := 0) (m := 0) (T := ∅) (show 0 + 7 = _ from (expect_bar m c).symm)) $$ [Hat Hc HO]
  · isplitr; · iapply (ctx_inv m K c kBar); iexact HC
    isplitl [Hc]; · iexact Hc
    isplitl [HO]; · iexact HO
    isplitr; · iapply (mayWait_sends c kBar (by show 1 < 2; decide) 0); iapply (ctx_levels m K); iexact HC
    iexact Hat
  iintro ⟨HO, Hat, -, Hpay⟩
  ihave Hp := (show bigSep ((sched m).duties ((c : Thread nD τ), SemLoc.reg barS) 0 \ ∅) (fun d => (sched m).payload ((c : Thread nD τ), SemLoc.reg barS) 0 d) ⊢ _
    from Entails.of_eq (rest_bar m c)) $$ Hpay
  imod (Rounds.cell_close ER (sched m) (Set.mem_univ (K (c, kBar))) (fun h => h) (R := 0 + 1) (duties_later m (cell c kBar))) $$ [Hat] with Hz
  · isplitr; · iapply (ctx_inv m K c kBar); iexact HC
    iexact Hat
  rw [wp_ret]; imodintro
  isplitl [Hp Hz]
  · isplitl [Hp]; · iexact Hp
    iexact Hz
  iexists _; iexact HO

/-! ## The copies to the peers -/

/-- `wp_send_pointsTo` at the cells of row group `q` and peer `j`, the device addressed being `n = tgt c j`. -/
theorem send_to (c n : Dev nD) (q : Fin 4) (j : Fin 7) (hn : n = tgt c j)
    {hsc : (recvFlat q j : Memref sig (Dev.tc n : Thread nD τ).2.kind .vmem S2x512 .f32).view.ref.isScScratch = false}
    {hsrc : (ownFlat q).view.WordExact} {hdst : (recvFlat q j).view.WordExact}
    {hsem : DmaTarget.Typed .vmem (.dma (recvS q j)) (.remote (Dev.tc n : Thread nD τ) (recvFlat q j : Memref sig .tc .vmem S2x512 .f32) (.dma (sendS q j)) hsc)}
    {α : Type} {Q : α → sProp 𝕄} {k : PUnit → P F α}
    (fd : (recvFlat q j).view.ty.Contents (Elt F)) (W : Waits sig Unit) :
    iprop(cellInv ER (sched m) (K (c, kD (dSend q j))) (cell c (kD (dSend q j)))
        ∗ cellInv ER (sched m) (K (tgt c j, kD (dRecv q j))) (cell (tgt c j) (kD (dRecv q j)))
        ∗ held c (ownFlat q) (lent j.succ) (ownBuf m c) ∗ held (tgt c j) (recvFlat q j) fullShare fd
        ∗ owes (c : Thread nD τ) (sendsFrom c (7 * q.val + j.val)) W
        ∗ dutyTok ER (cell c (kD (dSend q j))) 0 0 ∗ reached ER (cell c (kD (dSend q j))) 0
        ∗ dutyTok ER (cell (tgt c j) (kD (dRecv q j))) 0 0 ∗ reached ER (cell (tgt c j) (kD (dRecv q j))) 0)
      ⊢ iprop(((cred (tallyAt (cell c (kD (dSend q j))) () (amt (kD (dSend q j)))) ∗ owes (c : Thread nD τ) (sendsFrom c (7 * q.val + (j.val + 1))) W)
            -∗ run c (k ⟨⟩) Q)
          -∗ run c (.op (.enqueueDma (ownFlat q) (.remote (Dev.tc n : Thread nD τ) (recvFlat q j) (.dma (sendS q j)) hsc) (.dma (recvS q j)) hsrc hdst hsem) k) Q) := by
  subst hn
  exact Rounds.wp_send_pointsTo 𝒱₀ ER (sched m) (c : Thread nD τ) none (κ₁ := K (c, kD (dSend q j))) (κ₂ := K (tgt c j, kD (dRecv q j)))
    (r₁ := 0) (r₂ := 0) (d₁ := 0) (d₂ := 0) (fd := fd)
    (by rw [duties_cell]; exact Finset.mem_singleton_self _) (by rw [duties_cell]; exact Finset.mem_singleton_self _)
    () () (amt (kD (dSend q j))) rfl (amount_cell m c (kD (dSend q j)) 0) (amount_cell m (tgt c j) (kD (dRecv q j)) 0)
    (sendsFrom c (7 * q.val + (j.val + 1))) (sendsFrom_step c q j) (W := W)
    (by rw [payload_cell]; exact BI.Entails.refl _)
    (by
      rw [payload_cell]
      exact Entails.of_eq (held_congr (write_eq_on (recvFlat q j).view fd (recvBuf m (tgt c j)) _ (by rw [read_recv, tgt_rev]))))

/-- Sending a row group's statistics lends a share of them, fills the peer's landing slot, and pays the receive credit owed to that peer. -/
theorem run_send (c : Dev nD) (q : Fin 4) (j : Fin 7) :
    iprop(ctx m K ∗ (room (F := F) (tgt c j) (recvFlat q j) ∗ held c (ownFlat q) (lent j.succ) (ownBuf m c) ∗ fresh (F := F) c (dSend q j)
          ∗ dutyTok ER (cell (tgt c j) (kD (dRecv q j))) 0 0)
        ∗ owed (F := F) c (sendsFrom c (7 * q.val + j.val)))
      ⊢ run c (send c q j) (fun _ => iprop(pending (F := F) c (dSend q j) ∗ owed (F := F) c (sendsFrom c (7 * q.val + (j.val + 1))))) := by
  unfold owed send room fresh pending Prog.lift
  iintro ⟨#HC, ⟨⟨%fd, Hd⟩, Hs, ⟨Ht, Ha⟩, Ht'⟩, ⟨%W, HO⟩⟩
  iapply (send_to m K c _ q j (sendDev_eq c q j) fd W) $$ [Hd Hs Ht Ht' HO]
  · isplitr; · iapply (ctx_inv m K c (kD (dSend q j))); iexact HC
    isplitr; · iapply (ctx_inv m K (tgt c j) (kD (dRecv q j))); iexact HC
    isplitl [Hs]; · iexact Hs
    isplitl [Hd]; · iexact Hd
    isplitl [HO]; · iexact HO
    isplitl [Ht]; · iexact Ht
    isplitr; · iapply (ctx_reached m K c (kD (dSend q j))); iexact HC
    isplitl [Ht']; · iexact Ht'
    iapply (ctx_reached m K (tgt c j) (kD (dRecv q j))); iexact HC
  iintro ⟨Hc, HO⟩
  unfold run
  rw [wp_ret]; imodintro
  isplitl [Hc Ha]
  · isplitl [Ha]; · iexact Ha
    iexact Hc
  iexists W; iexact HO

/-! ## The computations -/

/-- The statistics of a row group. -/
theorem run_sums (c : Dev nD) (q : Fin 4) :
    iprop(held c (xFlat q) fullShare (xBuf m c) ∗ room (F := F) c (ownFlat q))
      ⊢ run c (sums q) (fun _ => iprop(held c (xFlat q) fullShare (xBuf m c) ∗ held c (ownFlat q) fullShare (ownBuf m c))) := by
  have hx : xbufM.view.setOn (rGrp q).toLoadRect.set ⊆ (xFlat q).view.set := by
    refine Finset.subset_of_eq ?_
    exact (setOn_whole cc0_scratch0 _).trans (set_xFlat q).symm
  have hs (h : Fin 2) : (rStat q h).set ⊆ (rOwn q).set := fun i hi => (mem_own q i).mpr ((mem_stat q h i).mp hi).1
  have hl (h : Fin 2) : ownM.view.setOn (rStat q h).toLoadRect.set ⊆ (ownFlat q).view.set := by
    have := hs h
    rw [← set_own, ← setOn_whole cc0_scratch4 (rStat q h).set] at this
    exact this
  have hw (h : Fin 2) : (ownM.access (rStat q h)).setOn Finset.univ ⊆ (ownFlat q).view.set := by
    have := hs h
    rw [← set_own, ← set_stat q h] at this
    exact this
  unfold sums room
  simp only [Prog.lift, Prog.bind_op, Prog.bind_ret]
  iintro ⟨Hx, ⟨%f, Ho⟩⟩
  iapply (wp_load 𝒱₀ (c : Thread nD τ) none Set.univ (m := xbufM) hx) $$ Hx; iintro Hx
  iapply (wp_load 𝒱₀ (c : Thread nD τ) none Set.univ (m := ownM) (hl 0)) $$ Ho; iintro Ho
  iapply (wp_store 𝒱₀ (c : Thread nD τ) none Set.univ (m := ownM) (hw 0)) $$ Ho; iintro Ho
  iapply (wp_load 𝒱₀ (c : Thread nD τ) none Set.univ (m := ownM) (hl 1)) $$ Ho; iintro Ho
  iapply (wp_store 𝒱₀ (c : Thread nD τ) none Set.univ (m := ownM) (hw 1)) $$ Ho; iintro Ho
  rw [wp_ret]; imodintro
  isplitl [Hx]; · iexact Hx
  ihave H := (show (((ownM.access (rStat q 1)).loc (c : Thread nD τ) ↦[(ownFlat q).view.set]{fullShare}
      (ownM.access (rStat q 1)).write (Elt F) ((ownM.access (rStat q 0)).write (Elt F) f
        (rowSums (xbufM.view.readAt (Elt F) (rGrp q).toLoadRect (xBuf m c))) Finset.univ)
        (rowSquares (xbufM.view.readAt (Elt F) (rGrp q).toLoadRect (xBuf m c))) Finset.univ) : sProp 𝕄) ⊢ held c (ownFlat q) fullShare (ownBuf m c)
    from Entails.of_eq (held_congr (c := c) (M := ownFlat q) (s := fullShare) (stats_stored m c q f))) $$ Ho
  iexact H

/-- A load of one landing slot of a row group, the seven being held. -/
theorem run_loadSlot {α : Type} (c : Dev nD) (q : Fin 4) (j : Fin 7) {hl : recvM.view.LoadsAt (rSlot q j).toLoadRect}
    {k : Vec F S1x1x2x512 .f32 → P F α} {Q : α → sProp 𝕄} :
    (bigSep Finset.univ fun j : Fin 7 => held c (recvFlat q j) fullShare (recvBuf m c))
      ⊢ iprop(((bigSep Finset.univ fun j : Fin 7 => held c (recvFlat q j) fullShare (recvBuf m c))
            -∗ run c (k (recvM.view.readAt (Elt F) (rSlot q j).toLoadRect (recvBuf m c))) Q)
          -∗ run c (.op (.load recvM (rSlot q j).toLoadRect hl) k) Q) := by
  have hj : recvM.view.setOn (rSlot q j).toLoadRect.set ⊆ (recvFlat q j).view.set :=
    Finset.subset_of_eq ((setOn_whole cc0_scratch5 _).trans (set_recv q j).symm)
  have split : (bigSep Finset.univ fun j : Fin 7 => held c (recvFlat q j) fullShare (recvBuf m c) : sProp 𝕄)
      = iprop(held c (recvFlat q j) fullShare (recvBuf m c) ∗ bigSep (Finset.univ.erase j) fun j : Fin 7 => held c (recvFlat q j) fullShare (recvBuf m c)) :=
    bigSep_erase (Finset.mem_univ j)
  rw [split]
  iintro ⟨H, Hs⟩ HW
  iapply (wp_load 𝒱₀ (c : Thread nD τ) none Set.univ (m := recvM) hj) $$ H; iintro H
  iapply HW
  isplitl [H]; · iexact H
  iexact Hs

/-- The result's block of a row group, from the statistics of all eight devices. -/
theorem run_norm (c : Dev nD) (q : Fin 4) (s : PosShare TreeShare) :
    iprop(held c (ownFlat q) s (ownBuf m c) ∗ (bigSep Finset.univ fun j : Fin 7 => held c (recvFlat q j) fullShare (recvBuf m c))
        ∗ held c gbufM fullShare (gammaArr m c) ∗ held c (xFlat q) fullShare (xBuf m c) ∗ held c bbufM fullShare (betaArr m c)
        ∗ room (F := F) c (oFlat q))
      ⊢ run c (norm q) (fun _ =>
        iprop(held c (ownFlat q) s (ownBuf m c) ∗ (bigSep Finset.univ fun j : Fin 7 => held c (recvFlat q j) fullShare (recvBuf m c))
        ∗ held c gbufM fullShare (gammaArr m c) ∗ held c (xFlat q) fullShare (xBuf m c) ∗ held c bbufM fullShare (betaArr m c)
        ∗ held c (oFlat q) fullShare (oBuf m c))) := by
  have ho : ownM.view.setOn (rOwn q).toLoadRect.set ⊆ (ownFlat q).view.set :=
    Finset.subset_of_eq ((setOn_whole cc0_scratch4 _).trans (set_own q).symm)
  have hx : xbufM.view.setOn (rGrp q).toLoadRect.set ⊆ (xFlat q).view.set :=
    Finset.subset_of_eq ((setOn_whole cc0_scratch0 _).trans (set_xFlat q).symm)
  have hr : obufM.view.setOn (rGrp q).toLoadRect.set ⊆ (oFlat q).view.set :=
    Finset.subset_of_eq ((setOn_whole cc0_scratch1 _).trans (set_oFlat q).symm)
  have hg : gbufM.view.setOn rVec.toLoadRect.set ⊆ gbufM.view.set := View.setOn_subset_set _ _
  have hb : bbufM.view.setOn rVec.toLoadRect.set ⊆ bbufM.view.set := View.setOn_subset_set _ _
  have hacc : ((obufM.access (rGrp q)).set : Finset S4x512x1024.Idx) = (rGrp q).set := View.set_slice_whole _ _
  have hw : (obufM.access (rGrp q)).setOn Finset.univ ⊆ (oFlat q).view.set :=
    Finset.subset_of_eq (hacc.trans (set_oFlat q).symm)
  have hfin (f : (oFlat q).view.ty.Contents (Elt F)) : (((obufM.access (rGrp q)).loc (c : Thread nD τ) ↦[(oFlat q).view.set]{fullShare}
      (obufM.access (rGrp q)).write (Elt F) f (outVec m c q) Finset.univ) : sProp 𝕄) ⊢ held c (oFlat q) fullShare (oBuf m c) :=
    Entails.of_eq (held_congr (c := c) (M := oFlat q) (s := fullShare) fun i hi =>
      write_eq_on (obufM.access (rGrp q)) f (oBuf m c) _ (read_obuf m c q) i (by
        have h : i ∈ (rGrp q).set := by rw [← set_oFlat]; exact hi
        rw [← hacc] at h; exact h))
  have hval : normBlock (ownM.view.readAt (Elt F) (rOwn q).toLoadRect (ownBuf m c))
      ![recvM.view.readAt (Elt F) (rSlot q 0).toLoadRect (recvBuf m c), recvM.view.readAt (Elt F) (rSlot q 1).toLoadRect (recvBuf m c),
        recvM.view.readAt (Elt F) (rSlot q 2).toLoadRect (recvBuf m c), recvM.view.readAt (Elt F) (rSlot q 3).toLoadRect (recvBuf m c),
        recvM.view.readAt (Elt F) (rSlot q 4).toLoadRect (recvBuf m c), recvM.view.readAt (Elt F) (rSlot q 5).toLoadRect (recvBuf m c),
        recvM.view.readAt (Elt F) (rSlot q 6).toLoadRect (recvBuf m c)]
      (gbufM.view.readAt (Elt F) rVec.toLoadRect (gammaArr m c)) (xbufM.view.readAt (Elt F) (rGrp q).toLoadRect (xBuf m c))
      (bbufM.view.readAt (Elt F) rVec.toLoadRect (betaArr m c)) = outVec m c q := rfl
  unfold norm loadRecv room
  simp only [Prog.lift, Prog.bind_op, Prog.bind_ret]
  iintro ⟨Ho, Hr, Hg, Hx, Hb, ⟨%f, Hf⟩⟩
  iapply (wp_load 𝒱₀ (c : Thread nD τ) none Set.univ (m := ownM) ho) $$ Ho; iintro Ho
  iapply (run_loadSlot m c q 0) $$ Hr; iintro Hr
  iapply (run_loadSlot m c q 1) $$ Hr; iintro Hr
  iapply (run_loadSlot m c q 2) $$ Hr; iintro Hr
  iapply (run_loadSlot m c q 3) $$ Hr; iintro Hr
  iapply (run_loadSlot m c q 4) $$ Hr; iintro Hr
  iapply (run_loadSlot m c q 5) $$ Hr; iintro Hr
  iapply (run_loadSlot m c q 6) $$ Hr; iintro Hr
  iapply (wp_load 𝒱₀ (c : Thread nD τ) none Set.univ (m := gbufM) hg) $$ Hg; iintro Hg
  iapply (wp_load 𝒱₀ (c : Thread nD τ) none Set.univ (m := xbufM) hx) $$ Hx; iintro Hx
  iapply (wp_load 𝒱₀ (c : Thread nD τ) none Set.univ (m := bbufM) hb) $$ Hb; iintro Hb
  iapply (wp_load 𝒱₀ (c : Thread nD τ) none Set.univ (m := obufM) hr) $$ Hf; iintro Hf
  iapply (wp_store 𝒱₀ (c : Thread nD τ) none Set.univ (m := obufM) hw) $$ Hf; iintro Hf
  rw [wp_ret]; imodintro
  isplitl [Ho]; · iexact Ho
  isplitl [Hr]; · iexact Hr
  isplitl [Hg]; · iexact Hg
  isplitl [Hx]; · iexact Hx
  isplitl [Hb]; · iexact Hb
  rw [hval]
  ihave H := (hfin f) $$ Hf
  iexact H

end Moves

end Cert.KernelIdealRun

end
-- ==== Proof.KernelIdealBody.lean ====
/-
# The run of one device

The steps in the program's order. What a device holds is kept per row group `q`, in the states below.
-/
module

public import proofs.«01_k».proof.Proof.KernelIdealMoves

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable (m : (ℓ : Loc nD τ sig) → Buf (Elt F) ℓ) (K : Dev nD × Kind → ℕ)

/-! ## What a device holds of a row group -/

/-- The rows of `x` and the slot for them, before the copy. -/
def xBefore (c : Dev nD) (q : Fin 4) : sProp 𝕄 :=
  iprop(held c (xRow q) fullShare (xArr m c) ∗ room (F := F) c (xFlat q) ∗ fresh (F := F) c (dInn q))
/-- The rows and the slot after it. -/
def xAfter (c : Dev nD) (q : Fin 4) : sProp 𝕄 :=
  iprop((held c (xFlat q) fullShare (xBuf m c) ∗ held c (xRow q) fullShare (xArr m c)) ∗ semVal (cell c (kD (dInn q))) 0)
/-- What the seven sends need but the statistics and the slots on the peers. -/
def sendBefore (c : Dev nD) (q : Fin 4) : sProp 𝕄 :=
  bigSep Finset.univ fun j : Fin 7 => iprop(fresh (F := F) c (dSend q j) ∗ dutyTok ER (cell (tgt c j) (kD (dRecv q j))) 0 0)
/-- The slots on the peers. -/
def slotsAway (c : Dev nD) (q : Fin 4) : sProp 𝕄 := bigSep Finset.univ fun j : Fin 7 => room (F := F) (tgt c j) (recvFlat q j)
/-- The part of the statistics kept, the sends under way. -/
def sendDuring (c : Dev nD) (q : Fin 4) : sProp 𝕄 :=
  iprop(held c (ownFlat q) (lent 0) (ownBuf m c) ∗ bigSep Finset.univ fun j : Fin 7 => pending (F := F) c (dSend q j))
/-- All parts of the statistics, the sends done. -/
def sendAfter (c : Dev nD) (q : Fin 4) : sProp 𝕄 :=
  iprop(held c (ownFlat q) (lent 0) (ownBuf m c)
    ∗ bigSep Finset.univ fun j : Fin 7 => iprop(held c (ownFlat q) (lent j.succ) (ownBuf m c) ∗ semVal (cell c (kD (dSend q j))) 0))
/-- The receives to come. -/
def recvBefore (c : Dev nD) (q : Fin 4) : sProp 𝕄 := bigSep Finset.univ fun j : Fin 7 => pending (F := F) c (dRecv q j)
/-- What has been received. -/
def recvAfter (c : Dev nD) (q : Fin 4) : sProp 𝕄 :=
  bigSep Finset.univ fun j : Fin 7 => iprop(held c (recvFlat q j) fullShare (recvBuf m c) ∗ semVal (cell c (kD (dRecv q j))) 0)
/-- Room for the result. -/
def outBefore (c : Dev nD) (q : Fin 4) : sProp 𝕄 :=
  iprop(room (F := F) c (oFlat q) ∗ room (F := F) c (outRow q) ∗ fresh (F := F) c (dOut q))
/-- The result. -/
def outAfter (c : Dev nD) (q : Fin 4) : sProp 𝕄 :=
  iprop((held c (outRow q) fullShare (outArr m c) ∗ held c (oFlat q) fullShare (oBuf m c)) ∗ semVal (cell c (kD (dOut q))) 0)

/-- At the start. -/
def group0 (c : Dev nD) (q : Fin 4) : sProp 𝕄 :=
  iprop(xBefore m c q ∗ (room (F := F) c (ownFlat q) ∗ sendBefore (F := F) c q) ∗ recvBefore (F := F) c q ∗ outBefore (F := F) c q)
/-- The rows of `x` on their way. -/
def group1 (c : Dev nD) (q : Fin 4) : sProp 𝕄 :=
  iprop(pending (F := F) c (dInn q) ∗ (room (F := F) c (ownFlat q) ∗ sendBefore (F := F) c q) ∗ recvBefore (F := F) c q ∗ outBefore (F := F) c q)
/-- The statistics on their way. -/
def group2 (c : Dev nD) (q : Fin 4) : sProp 𝕄 :=
  iprop(xAfter m c q ∗ sendDuring m c q ∗ recvBefore (F := F) c q ∗ outBefore (F := F) c q)
/-- The result on its way. -/
def group3 (c : Dev nD) (q : Fin 4) : sProp 𝕄 :=
  iprop(xAfter m c q ∗ sendDuring m c q ∗ recvAfter m c q ∗ pending (F := F) c (dOut q))
/-- The result arrived. -/
def group4 (c : Dev nD) (q : Fin 4) : sProp 𝕄 :=
  iprop(xAfter m c q ∗ sendDuring m c q ∗ recvAfter m c q ∗ outAfter m c q)
/-- At the end. -/
def group5 (c : Dev nD) (q : Fin 4) : sProp 𝕄 :=
  iprop(xAfter m c q ∗ sendAfter m c q ∗ recvAfter m c q ∗ outAfter m c q)

/-! ## The groups of steps -/

/-- Starting the copy of row group `q` takes the group from its first state to its second. -/
theorem group_startIn (c : Dev nD) (q : Fin 4) : iprop(ctx m K ∗ group0 m c q) ⊢ run c (startIn q) (fun _ => group1 c q) := by
  unfold group0 group1 xBefore
  iintro ⟨#HC, Hx, Hr⟩
  iapply (run_last (run_startIn m K c q)) $$ [Hx]
  · isplitr; · iexact HC
    iexact Hx
  iintro Hx
  isplitl [Hx]; · iexact Hx
  iexact Hr

/-- The seven sends of a row group's statistics: all seven shares are lent, and the seven receive credits are no longer owed. -/
theorem group_sends (c : Dev nD) (q : Fin 4) :
    iprop(ctx m K ∗ (slotsAway (F := F) c q ∗ held c (ownFlat q) fullShare (ownBuf m c) ∗ sendBefore (F := F) c q) ∗ owed (F := F) c (sendsFrom c (7 * q.val)))
      ⊢ run c (rep 7 (send c q)) (fun _ => iprop(sendDuring m c q ∗ owed (F := F) c (sendsFrom c (7 * q.val + 7)))) := by
  unfold slotsAway sendBefore sendDuring
  iintro ⟨#HC, ⟨Hd, Hown, Ht⟩, HO⟩
  ihave Hown' := (Entails.of_eq (held_split (c := c) (M := ownFlat q) (ownBuf m c))) $$ Hown
  icases Hown' with ⟨H0, Hs⟩
  ihave H1 := zip $$ [Hs Ht]
  · isplitl [Hs]; · iexact Hs
    iexact Ht
  ihave H2 := zip $$ [Hd H1]
  · isplitl [Hd]; · iexact Hd
    iexact H1
  iapply (run_last (run_loop m K (fun n => owed (F := F) c (sendsFrom c (7 * q.val + n))) fun j => run_send m K c q j)) $$ [H2 HO]
  · isplitr; · iexact HC
    isplitl [H2]; · iexact H2
    iexact HO
  iintro ⟨Hp, HO⟩
  isplitl [H0 Hp]
  · isplitl [H0]; · iexact H0
    iexact Hp
  iexact HO

/-- The sums and sends of a row group after the first. -/
theorem group_next (c : Dev nD) (q : Fin 4) :
    iprop(ctx m K ∗ (group1 (F := F) c q ∗ slotsAway (F := F) c q) ∗ owed (F := F) c (sendsFrom c (7 * q.val)))
      ⊢ run c (nextGroup c q) (fun _ => iprop(group2 m c q ∗ owed (F := F) c (sendsFrom c (7 * q.val + 7)))) := by
  unfold group1 group2 nextGroup
  iintro ⟨#HC, ⟨⟨Hp, ⟨Hown, Hs⟩, Hrest⟩, Hd⟩, HO⟩
  iapply (run_use (run_waitIn m K c q (7 * q.val))) $$ [Hp HO]
  · isplitr; · iexact HC
    isplitl [Hp]; · iexact Hp
    iexact HO
  iintro ⟨⟨⟨Hx, Hxr⟩, Hz⟩, HO⟩
  iapply (run_use (run_sums m c q)) $$ [Hx Hown]
  · isplitl [Hx]; · iexact Hx
    iexact Hown
  iintro ⟨Hx, Hown⟩
  iapply (run_last (group_sends m K c q)) $$ [Hd Hown Hs HO]
  · isplitr; · iexact HC
    isplitl [Hd Hown Hs]
    · isplitl [Hd]; · iexact Hd
      isplitl [Hown]; · iexact Hown
      iexact Hs
    iexact HO
  iintro ⟨Hs, HO⟩
  isplitr [HO]
  · unfold xAfter
    isplitl [Hx Hxr Hz]
    · isplitl [Hx Hxr]
      · isplitl [Hx]; · iexact Hx
        iexact Hxr
      iexact Hz
    isplitl [Hs]; · iexact Hs
    iexact Hrest
  iexact HO

/-- The barrier cell before its wait. -/
def barBefore (c : Dev nD) : sProp 𝕄 := iprop(atPos ER (cell c kBar) 0 ∅ 0 ∗ cred (tallyAt (cell c kBar) () 7))

/-- The first row group: its sums, the wait for the seven peers, its sends; the landing slots of the other groups come with the barrier. -/
theorem group_first (c : Dev nD) :
    iprop(ctx m K ∗ group1 (F := F) c 0 ∗ barBefore (F := F) c ∗ owed (F := F) c (sendsFrom c 0))
      ⊢ run c (firstGroup c) (fun _ => iprop(group2 m c 0 ∗ (bigSep Finset.univ fun i : Fin 3 => slotsAway (F := F) c i.succ)
          ∗ semVal (cell c kBar) 0 ∗ owed (F := F) c (sendsFrom c 7))) := by
  unfold group1 group2 barBefore firstGroup
  iintro ⟨#HC, ⟨Hp, ⟨Hown, Hs⟩, Hrest⟩, Hb, HO⟩
  iapply (run_use (run_waitIn m K c 0 0)) $$ [Hp HO]
  · isplitr; · iexact HC
    isplitl [Hp]; · iexact Hp
    iexact HO
  iintro ⟨⟨⟨Hx, Hxr⟩, Hz⟩, HO⟩
  iapply (run_use (run_sums m c 0)) $$ [Hx Hown]
  · isplitl [Hx]; · iexact Hx
    iexact Hown
  iintro ⟨Hx, Hown⟩
  iapply (run_use (run_waitBar m K c)) $$ [Hb HO]
  · isplitr; · iexact HC
    isplitl [Hb]; · iexact Hb
    iexact HO
  iintro ⟨⟨Hd, Hzb⟩, HO⟩
  ihave Hd' := (show _ ⊢ iprop(slotsAway (F := F) c 0 ∗ bigSep Finset.univ fun i : Fin 3 => slotsAway (F := F) c i.succ)
    from (Entails.of_eq (bigSep_univ_comm _)).trans (Entails.of_eq (bigSep_succ (n := 3) fun q => slotsAway (F := F) c q))) $$ Hd
  icases Hd' with ⟨Hd, Hds⟩
  iapply (run_last (group_sends m K c 0)) $$ [Hd Hown Hs HO]
  · isplitr; · iexact HC
    isplitl [Hd Hown Hs]
    · isplitl [Hd]; · iexact Hd
      isplitl [Hown]; · iexact Hown
      iexact Hs
    iexact HO
  iintro ⟨Hs, HO⟩
  isplitl [Hx Hxr Hz Hs Hrest]
  · unfold xAfter
    isplitl [Hx Hxr Hz]
    · isplitl [Hx Hxr]
      · isplitl [Hx]; · iexact Hx
        iexact Hxr
      iexact Hz
    isplitl [Hs]; · iexact Hs
    iexact Hrest
  isplitl [Hds]; · iexact Hds
  isplitl [Hzb]; · iexact Hzb
  iexact HO

/-- γ and β in their buffers, and nothing owed. -/
def affine (c : Dev nD) : sProp 𝕄 :=
  iprop(held c gbufM fullShare (gammaArr m c) ∗ held c bbufM fullShare (betaArr m c) ∗ owed (F := F) c 0)

/-- Waiting for the seven peers' statistics, normalising and starting the copy out take a row group to its next state. -/
theorem group_result (c : Dev nD) (q : Fin 4) :
    iprop(ctx m K ∗ group2 m c q ∗ affine m c) ⊢ run c (result q) (fun _ => iprop(group3 m c q ∗ affine m c)) := by
  unfold group2 group3 affine result xAfter sendDuring recvBefore recvAfter outBefore
  iintro ⟨#HC, ⟨⟨⟨Hx, Hxr⟩, Hz⟩, ⟨H0, Hs⟩, Hr, Ho, How, Hf⟩, Hg, Hb, HO⟩
  iapply (run_use (run_loop m K (fun _ => owed (F := F) c 0) fun j => run_waitRecv m K c q j)) $$ [Hr HO]
  · isplitr; · iexact HC
    isplitl [Hr]; · iexact Hr
    iexact HO
  iintro ⟨Hr, HO⟩
  ihave Hr' := unzip $$ Hr
  icases Hr' with ⟨Hr, Hrz⟩
  iapply (run_use (run_norm m c q (lent 0))) $$ [H0 Hr Hg Hx Hb Ho]
  · isplitl [H0]; · iexact H0
    isplitl [Hr]; · iexact Hr
    isplitl [Hg]; · iexact Hg
    isplitl [Hx]; · iexact Hx
    isplitl [Hb]; · iexact Hb
    iexact Ho
  iintro ⟨H0, Hr, Hg, Hx, Hb, Ho⟩
  iapply (run_last (run_startOut m K c q)) $$ [Ho How Hf]
  · isplitr; · iexact HC
    isplitl [Ho]; · iexact Ho
    isplitl [How]; · iexact How
    iexact Hf
  iintro Ho
  isplitl [Hx Hxr Hz H0 Hs Hr Hrz Ho]
  · isplitl [Hx Hxr Hz]
    · isplitl [Hx Hxr]
      · isplitl [Hx]; · iexact Hx
        iexact Hxr
      iexact Hz
    isplitl [H0 Hs]
    · isplitl [H0]; · iexact H0
      iexact Hs
    isplitl [Hr Hrz]
    · iapply zip
      isplitl [Hr]; · iexact Hr
      iexact Hrz
    iexact Ho
  isplitl [Hg]; · iexact Hg
  isplitl [Hb]; · iexact Hb
  iexact HO

/-- After the wait for the copy out, the row group's rows of the result hold the result. -/
theorem group_waitOut (c : Dev nD) (q : Fin 4) :
    iprop(ctx m K ∗ group3 m c q ∗ owed (F := F) c 0) ⊢ run c (waitOut q) (fun _ => iprop(group4 m c q ∗ owed (F := F) c 0)) := by
  unfold group3 group4 outAfter
  iintro ⟨#HC, ⟨Hx, Hs, Hr, Ho⟩, HO⟩
  iapply (run_last (run_waitOut m K c q)) $$ [Ho HO]
  · isplitr; · iexact HC
    isplitl [Ho]; · iexact Ho
    iexact HO
  iintro ⟨Ho, HO⟩
  isplitr [HO]
  · isplitl [Hx]; · iexact Hx
    isplitl [Hs]; · iexact Hs
    isplitl [Hr]; · iexact Hr
    iexact Ho
  iexact HO

/-- After the waits for the seven sends, all of the row group's statistics are back. -/
theorem group_waitSend (c : Dev nD) (q : Fin 4) :
    iprop(ctx m K ∗ group4 m c q ∗ owed (F := F) c 0) ⊢ run c (rep 7 (waitSend q)) (fun _ => iprop(group5 m c q ∗ owed (F := F) c 0)) := by
  unfold group4 group5 sendDuring sendAfter
  iintro ⟨#HC, ⟨Hx, ⟨H0, Hs⟩, Hr, Ho⟩, HO⟩
  iapply (run_last (run_loop m K (fun _ => owed (F := F) c 0) fun j => run_waitSend m K c q j)) $$ [Hs HO]
  · isplitr; · iexact HC
    isplitl [Hs]; · iexact Hs
    iexact HO
  iintro ⟨Hs, HO⟩
  isplitr [HO]
  · isplitl [Hx]; · iexact Hx
    isplitl [H0 Hs]
    · isplitl [H0]; · iexact H0
      iexact Hs
    isplitl [Hr]; · iexact Hr
    iexact Ho
  iexact HO

/-! ## The whole program -/

/-- What a device starts with. -/
def before (c : Dev nD) : sProp 𝕄 :=
  iprop((bigSep Finset.univ fun q : Fin 4 => group0 m c q)
    ∗ (held c gammaM fullShare (gammaArr m c) ∗ room (F := F) c gbufM ∗ fresh (F := F) c (dGb 0))
    ∗ (held c betaM fullShare (betaArr m c) ∗ room (F := F) c bbufM ∗ fresh (F := F) c (dGb 1))
    ∗ (bigSep Finset.univ fun k : Fin 7 => iprop((bigSep Finset.univ fun q : Fin 4 => room (F := F) c (recvFlat q k.rev)) ∗ dutyTok ER (cell (tgt c k) kBar) 0 k.rev))
    ∗ barBefore (F := F) c)
/-- What it ends with. -/
def after (c : Dev nD) : sProp 𝕄 :=
  iprop((bigSep Finset.univ fun q : Fin 4 => group5 m c q)
    ∗ ((held c gbufM fullShare (gammaArr m c) ∗ held c gammaM fullShare (gammaArr m c)) ∗ semVal (cell c (kD (dGb 0))) 0)
    ∗ ((held c bbufM fullShare (betaArr m c) ∗ held c betaM fullShare (betaArr m c)) ∗ semVal (cell c (kD (dGb 1))) 0)
    ∗ semVal (cell c kBar) 0)

/-- The program, from what a device starts with to what it ends with. -/
theorem run_program (c : Dev nD) :
    iprop(ctx m K ∗ before m c ∗ owed (F := F) c (O₀ c)) ⊢ run c (program (F := F)) (fun _ => iprop(after m c ∗ owed (F := F) c 0)) := by
  unfold before after
  iintro ⟨#HC, ⟨H, Hg, Hb, Hsig, Hbar⟩, HO⟩
  unfold program
  simp only [Prog.lift, Prog.bind_op, Prog.bind_ret, wp_deviceId]
  iapply (run_use (run_each m K fun q => group_startIn m K c q)) $$ [H]
  · isplitr; · iexact HC
    iexact H
  iintro H
  iapply (run_use (run_startGamma m K c)) $$ [Hg]
  · isplitr; · iexact HC
    iexact Hg
  iintro Hg
  iapply (run_use (run_startBeta m K c)) $$ [Hb]
  · isplitr; · iexact HC
    iexact Hb
  iintro Hb
  iapply (run_use (run_loop m K (fun n => owed (F := F) c (sigsFrom c n)) fun k => run_signal m K c k)) $$ [Hsig HO]
  · isplitr; · iexact HC
    isplitl [Hsig]; · iexact Hsig
    iexact HO
  iintro ⟨-, HO⟩
  rw [sigsFrom_end]
  ihave H' := (Entails.of_eq (bigSep_succ (n := 3) fun q => group1 (F := F) c q)) $$ H
  icases H' with ⟨H0, Hs⟩
  iapply (run_use (group_first m K c)) $$ [H0 Hbar HO]
  · isplitr; · iexact HC
    isplitl [H0]; · iexact H0
    isplitl [Hbar]; · iexact Hbar
    iexact HO
  iintro ⟨H0, Hd, Hzb, HO⟩
  ihave Hs' := zip $$ [Hs Hd]
  · isplitl [Hs]; · iexact Hs
    iexact Hd
  iapply (run_use (run_loop m K (f := fun i : Fin 3 => nextGroup c i.succ) (fun n => owed (F := F) c (sendsFrom c (7 * (n + 1)))) fun i => group_next m K c i.succ)) $$ [Hs' HO]
  · isplitr; · iexact HC
    isplitl [Hs']; · iexact Hs'
    iexact HO
  iintro ⟨Hs, HO⟩
  ihave H := (Entails.of_eq (bigSep_succ (n := 3) fun q => group2 m c q).symm) $$ [H0 Hs]
  · isplitl [H0]; · iexact H0
    iexact Hs
  rw [show sendsFrom c (7 * (3 + 1)) = 0 from sendsFrom_end c]
  iapply (run_use (run_waitGamma m K c)) $$ [Hg HO]
  · isplitr; · iexact HC
    isplitl [Hg]; · iexact Hg
    iexact HO
  iintro ⟨⟨⟨Hg, Hga⟩, Hgz⟩, HO⟩
  iapply (run_use (run_waitBeta m K c)) $$ [Hb HO]
  · isplitr; · iexact HC
    isplitl [Hb]; · iexact Hb
    iexact HO
  iintro ⟨⟨⟨Hb, Hba⟩, Hbz⟩, HO⟩
  iapply (run_use (run_loop m K (fun _ => affine m c) fun q => group_result m K c q)) $$ [H Hg Hb HO]
  · isplitr; · iexact HC
    isplitl [H]; · iexact H
    unfold affine
    isplitl [Hg]; · iexact Hg
    isplitl [Hb]; · iexact Hb
    iexact HO
  unfold affine
  iintro ⟨H, Hg, Hb, HO⟩
  iapply (run_use (run_loop m K (fun _ => owed (F := F) c 0) fun q => group_waitOut m K c q)) $$ [H HO]
  · isplitr; · iexact HC
    isplitl [H]; · iexact H
    iexact HO
  iintro ⟨H, HO⟩
  iapply (run_last (run_loop m K (fun _ => owed (F := F) c 0) fun q => group_waitSend m K c q)) $$ [H HO]
  · isplitr; · iexact HC
    isplitl [H]; · iexact H
    iexact HO
  iintro ⟨H, HO⟩
  isplitr [HO]
  · isplitl [H]; · iexact H
    isplitl [Hg Hga Hgz]
    · isplitl [Hg Hga]
      · isplitl [Hg]; · iexact Hg
        iexact Hga
      iexact Hgz
    isplitl [Hb Hba Hbz]
    · isplitl [Hb Hba]
      · isplitl [Hb]; · iexact Hb
        iexact Hba
      iexact Hbz
    iexact Hzb
  iexact HO

end Body

end Cert.KernelIdealRun

end
-- ==== Proof.KernelIdealGhost.lean ====
/-
# Setting up the protocol

Before the devices start, every cell gets its invariant, and the tokens of the duties are dealt to the devices that pay
them: a barrier's duty `d` to the device that signals it, a receive's duty to the device that sends it, every other to the
device of the cell.
-/
module

public import proofs.«01_k».proof.Proof.KernelIdealBody
public import proofs.«01_k».proof.Proof.Gen.KernelIdeal.Launch
public import Idealize.ShloMosaic.Lib.Pipeline.Launch

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the cells, sorted by what the cells are for -/

/-- A family over the copy cells, written by groups. -/
theorem copies_split (Φ : DKind → sProp 𝕄) :
    bigSep Finset.univ Φ = iprop((bigSep Finset.univ fun q : Fin 4 => Φ (dInn q)) ∗ (bigSep Finset.univ fun q : Fin 4 => Φ (dOut q))
      ∗ (Φ (dGb 0) ∗ Φ (dGb 1))
      ∗ (bigSep Finset.univ fun q : Fin 4 => bigSep Finset.univ fun j : Fin 7 => Φ (dSend q j))
      ∗ (bigSep Finset.univ fun q : Fin 4 => bigSep Finset.univ fun j : Fin 7 => Φ (dRecv q j))) := by
  rw [bigSep_univ_sum, bigSep_univ_sum, bigSep_univ_sum, bigSep_univ_sum, bigSep_univ_prod, bigSep_univ_prod,
    bigSep_succ (n := 1) (fun h => Φ (dGb h)), bigSep_univ_of_subsingleton (0 : Fin 1)]
  rfl
/-- A family over all cells: the barrier's, and the copy cells'. -/
theorem kinds_split (Φ : Kind → sProp 𝕄) :
    bigSep Finset.univ Φ = iprop(Φ kBar ∗ bigSep Finset.univ fun k : DKind => Φ (kD k)) := by
  rw [bigSep_univ_sum, bigSep_univ_of_subsingleton ()]
  rfl

/-- Two families over one index side by side are one family of pairs. -/
theorem pair {I : Type} [Fintype I] {A B : I → sProp 𝕄} :
    (bigSep Finset.univ fun i => iprop(A i ∗ B i)) = iprop(bigSep Finset.univ A ∗ bigSep Finset.univ B) := bigSep_sep' _ A B

/-! ## The cells and the tokens, as sets -/

/-- Different devices or kinds have different cells. -/
theorem cell_injective : Function.Injective (fun ck : Dev nD × Kind => cell ck.1 ck.2) := by
  rintro ⟨c, k⟩ ⟨c', k'⟩ h
  have h1 : c = c' := congrArg (fun g : GSem nD τ sig => g.1.1) h
  have h2 : semOf k = semOf k' := congrArg Prod.snd h
  rw [← kindOf_semOf k, ← kindOf_semOf k', h2, h1]
/-- Two cells are equal when device and kind are. -/
theorem cell_eq_iff {c d : Dev nD} {k l : Kind} : cell c k = cell d l ↔ c = d ∧ k = l :=
  ⟨fun h => Prod.ext_iff.mp (cell_injective (a₁ := (c, k)) (a₂ := (d, l)) h), fun ⟨h1, h2⟩ => by rw [h1, h2]⟩
/-- All cells of the run. -/
def allCells : Finset (GSem nD τ sig) := Finset.univ.map ⟨_, cell_injective⟩

/-- The duties of a device's cells: the seven of its barrier, the one of each copy cell. -/
abbrev Duty : Type := Fin 7 ⊕ DKind
/-- The kind of cell that a duty is on. -/
def dutyKind : Duty → Kind
  | .inl _ => kBar
  | .inr k => kD k
/-- The number of a duty at its cell. -/
def dutyNum : Duty → Fin 7
  | .inl d => d
  | .inr _ => 0
/-- The token of a duty: its cell, its round (there is one) and its number. -/
abbrev tokOf (x : Dev nD × Duty) : GSem nD τ sig × ℕ × Fin 7 := (cell x.1 (dutyKind x.2), 0, dutyNum x.2)
/-- Different duties have different tokens. -/
theorem tokOf_injective : Function.Injective tokOf := by
  rintro ⟨c, x⟩ ⟨c', x'⟩ h
  obtain ⟨h1, h2⟩ := cell_eq_iff.mp (congrArg Prod.fst h)
  have h3 : dutyNum x = dutyNum x' := congrArg (fun t : GSem nD τ sig × ℕ × Fin 7 => t.2.2) h
  subst h1
  refine congrArg _ ?_
  match x, x' with
  | .inl d, .inl d' => exact congrArg _ h3
  | .inl d, .inr k => exact absurd h2 (fun h => by cases h)
  | .inr k, .inl d => exact absurd h2 (fun h => by cases h)
  | .inr k, .inr k' => exact congrArg Sum.inr (Sum.inr.inj h2)
/-- All tokens of the run. -/
def allToks : Finset (GSem nD τ sig × ℕ × Fin 7) := Finset.univ.map ⟨tokOf, tokOf_injective⟩

/-- The resource the run starts from. -/
def u₀ : UU :=
  (initOf (Pipeline.cells cfgs cellOf_inj) (Pipeline.launchToks cfgs cellOf_inj), initOf allCells allToks)

/-- The tokens of device `c`'s own cells. -/
def ownToks (c : Dev nD) : sProp 𝕄 :=
  iprop((bigSep Finset.univ fun d : Fin 7 => dutyTok ER (cell c kBar) 0 d)
    ∗ bigSep Finset.univ fun k : DKind => dutyTok ER (cell c (kD k)) 0 0)
/-- The tokens of the duties device `c` pays. -/
def payToks (c : Dev nD) : sProp 𝕄 :=
  iprop((bigSep Finset.univ fun k : Fin 7 => dutyTok ER (cell (tgt c k) kBar) 0 k.rev)
    ∗ (bigSep Finset.univ fun q : Fin 4 => dutyTok ER (cell c (kD (dInn q))) 0 0)
    ∗ (bigSep Finset.univ fun q : Fin 4 => dutyTok ER (cell c (kD (dOut q))) 0 0)
    ∗ (dutyTok ER (cell c (kD (dGb 0))) 0 0 ∗ dutyTok ER (cell c (kD (dGb 1))) 0 0)
    ∗ (bigSep Finset.univ fun q : Fin 4 => bigSep Finset.univ fun j : Fin 7 => dutyTok ER (cell c (kD (dSend q j))) 0 0)
    ∗ (bigSep Finset.univ fun q : Fin 4 => bigSep Finset.univ fun j : Fin 7 => dutyTok ER (cell (tgt c j) (kD (dRecv q j))) 0 0))

/-- The barrier tokens go to the devices that signal. -/
theorem bar_around :
    (bigSep Finset.univ fun c : Dev nD => bigSep Finset.univ fun d : Fin 7 => (dutyTok ER (cell c kBar) 0 d : sProp 𝕄))
      = bigSep Finset.univ fun c : Dev nD => bigSep Finset.univ fun k : Fin 7 => dutyTok ER (cell (tgt c k) kBar) 0 k.rev := by
  rw [bigSep_univ_comm, bigSep_univ_equiv Fin.revPerm]
  rw [bigSep_univ_comm (fun (c : Dev nD) (k : Fin 7) => (dutyTok ER (cell (tgt c k) kBar) 0 k.rev : sProp 𝕄))]
  refine bigSep_congr fun k _ => ?_
  exact bigSep_univ_equiv (hop k) fun c : Dev nD => (dutyTok ER (cell c kBar) 0 k.rev : sProp 𝕄)
/-- The receive tokens go to the devices that send. -/
theorem recv_around :
    (bigSep Finset.univ fun c : Dev nD => bigSep Finset.univ fun q : Fin 4 => bigSep Finset.univ fun j : Fin 7 =>
        (dutyTok ER (cell c (kD (dRecv q j))) 0 0 : sProp 𝕄))
      = bigSep Finset.univ fun c : Dev nD => bigSep Finset.univ fun q : Fin 4 => bigSep Finset.univ fun j : Fin 7 =>
        dutyTok ER (cell (tgt c j) (kD (dRecv q j))) 0 0 := by
  rw [bigSep_univ_comm, bigSep_univ_comm (fun (c : Dev nD) (q : Fin 4) => bigSep Finset.univ fun j : Fin 7 =>
        (dutyTok ER (cell (tgt c j) (kD (dRecv q j))) 0 0 : sProp 𝕄))]
  refine bigSep_congr fun q _ => ?_
  rw [bigSep_univ_comm, bigSep_univ_comm (fun (c : Dev nD) (j : Fin 7) =>
        (dutyTok ER (cell (tgt c j) (kD (dRecv q j))) 0 0 : sProp 𝕄))]
  refine bigSep_congr fun j _ => ?_
  exact bigSep_univ_equiv (hop j) fun c : Dev nD => (dutyTok ER (cell c (kD (dRecv q j))) 0 0 : sProp 𝕄)
/-- All tokens, dealt. -/
theorem toks_around : (bigSep Finset.univ fun c : Dev nD => (ownToks (F := F) c)) = bigSep Finset.univ fun c : Dev nD => payToks c := by
  unfold ownToks payToks
  simp only [copies_split, pair]
  rw [bar_around, recv_around]

section Set

variable (m : (ℓ : Loc nD τ sig) → Buf (Elt F) ℓ)

/-- What the starting resource gives for device `c`'s cells. -/
def G (c : Dev nD) : sProp 𝕄 :=
  iprop((bigSep Finset.univ fun k : Kind => roundState ER (sched m) (cell c k) 0)
    ∗ (bigSep Finset.univ fun k : Kind => atPos ER (cell c k) 0 ∅ 0)
    ∗ (bigSep Finset.univ fun k : Kind => reached ER (cell c k) 0) ∗ ownToks c)

/-- The first ghost state holds every device's positions, round marks and tokens. -/
theorem mint : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Kind => Φ (cell c k) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum]; rfl
  iintro H
  imod (Rounds.fund ER (sched m) allCells allToks) $$ H with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  simp only [pair]
  isplitl [Hst']; · iexact Hst'
  isplitl [Hat']; · iexact Hat'
  isplitl [Hr'] <;> iassumption

/-! ## The counters -/

/-- The copy semaphores, as the launch counts them. -/
abbrev osem : DKind → SemLoc sig := fun k => .dma (dsem k)
/-- The semaphores of the copy cells are scoped, and no two cells have the same one. -/
theorem ownSemFacts : Pipeline.OwnSemFacts cfg0.spec osem where
  isScoped := fun k => by
    match k with
    | dInn q => revert q; decide
    | dOut q => revert q; decide
    | dGb h => revert h; decide
    | dSend q j => revert q j; decide
    | dRecv q j => revert q j; decide
  inj := fun k k' h => by
    have := congrArg kindOf h
    exact Sum.inr.inj (((kindOf_semOf (kD k)).symm.trans this).trans (kindOf_semOf (kD k')))
  disj := fun k w => w.elim0

/-- The counter of the barrier is the only one that the call does not own. -/
theorem unscopedSems0_eq (c : Dev nD) : (unscopedSems0 c : sProp 𝕄) = semVal (cell c kBar) 0 := by
  unfold unscopedSems0; rw [bigSep_eq_bigSepL_of_eq [SemLoc.reg barS] (by decide) (by decide)]; rfl
/-- The call's semaphores at zero are the copy cells at zero. -/
theorem ownSems0_eq (c : Dev nD) : (Pipeline.ownSems0 (Ix := Unit) (Name := ℕ) (U := UU) (Lvl := ℕ) (Val := Elt F) (τ := τ) osem c : sProp 𝕄)
    = bigSep Finset.univ fun k : DKind => semVal (cell c (kD k)) 0 := rfl

/-! ## The invariants -/

/-- What stays with device `c`: its positions, and the tokens of the duties it pays. -/
def linear (c : Dev nD) : sProp 𝕄 := iprop((bigSep Finset.univ fun k : Kind => atPos ER (cell c k) 0 ∅ 0) ∗ payToks c)
/-- With the invariants, which all devices share. -/
def G' (c : Dev nD) : sProp 𝕄 := iprop(∃ K, records m K ∗ linear c)

/-- A device's semaphores at zero, with its ghost state, become the invariants of its cells, and its positions,
    round marks and tokens stay. -/
theorem device_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Kind => iprop(∃ κ : ℕ, cellInv ER (sched m) κ (cell c k)))
          ∗ (bigSep Finset.univ fun k : Kind => atPos ER (cell c k) 0 ∅ 0)
          ∗ (bigSep Finset.univ fun k : Kind => reached ER (cell c k) 0) ∗ ownToks c) := by
  rw [unscopedSems0_eq, ownSems0_eq]
  unfold G
  iintro ⟨Hos, Hus, Hst, Hat, Hr, Htok⟩
  ihave Hv := (Entails.of_eq (kinds_split fun k => (semVal (cell c k) 0 : sProp 𝕄)).symm) $$ [Hos Hus]
  · isplitl [Hus] <;> iassumption
  imod (show iprop((bigSep Finset.univ fun k : Kind => semVal (cell c k) 0) ∗ bigSep Finset.univ fun k : Kind => roundState ER (sched m) (cell c k) 0)
      ⊢ (|={Set.univ}=> bigSep Finset.univ fun k : Kind => iprop(∃ κ : ℕ, cellInv ER (sched m) κ (cell c k)) : sProp 𝕄) from by
        rw [← pair]
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- A family may use, at every index, what may be used any number of times. -/
theorem each_with {I : Type} [Fintype I] [DecidableEq I] {R : sProp 𝕄} [BI.Persistent R] {Φ Ψ : I → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← pair]; exact bigSep_mono fun i _ => h i)

/-- The tokens, dealt out by the cell they are on, are gathered by the device that uses them, and the invariants of all cells are shared by all. -/
theorem deal :
    (bigSep Finset.univ fun c : Dev nD => iprop((bigSep Finset.univ fun k : Kind => iprop(∃ κ : ℕ, cellInv ER (sched m) κ (cell c k)))
          ∗ (bigSep Finset.univ fun k : Kind => atPos ER (cell c k) 0 ∅ 0)
          ∗ (bigSep Finset.univ fun k : Kind => reached ER (cell c k) 0) ∗ ownToks c) : sProp 𝕄)
      ⊢ bigSep Finset.univ (G' m) := by
  rw [pair, pair, pair, ← bigSep_univ_prod (fun ck : Dev nD × Kind => iprop(∃ κ : ℕ, cellInv ER (sched m) κ (cell ck.1 ck.2))),
    ← bigSep_univ_prod (fun ck : Dev nD × Kind => (reached ER (cell ck.1 ck.2) 0 : sProp 𝕄)), toks_around]
  iintro ⟨HI, Hat, #HR, Htok⟩
  ihave HK := (BI.bigSep_exists_pi Finset.univ (fun (ck : Dev nD × Kind) (κ : ℕ) => (cellInv ER (sched m) κ (cell ck.1 ck.2) : sProp 𝕄))) $$ HI
  icases HK with ⟨%K, #HI⟩
  ihave Hlin := (show iprop((bigSep Finset.univ fun c : Dev nD => bigSep Finset.univ fun k : Kind => atPos ER (cell c k) 0 ∅ 0)
      ∗ bigSep Finset.univ fun c : Dev nD => payToks c) ⊢ (bigSep Finset.univ fun c : Dev nD => linear c : sProp 𝕄)
      from Entails.of_eq (by unfold linear; rw [pair])) $$ [Hat Htok]
  · isplitl [Hat] <;> iassumption
  iapply (each_with (R := records m K) (Φ := fun c : Dev nD => linear c) (Ψ := G' m) fun c => by
    unfold G'
    iintro ⟨#HR, Hl⟩
    iexists K
    isplitr; · iexact HR
    iexact Hl)
  isplitr
  · unfold records; isplitl; · iexact HI
    iexact HR
  · iexact Hlin

/-- All devices' invariants at once, and the tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => device_alloc m c).trans (bigSep_fupd _ _)).trans (BI.fupd_mono (deal m))

end Set

/-! ## The credit of the first waits -/

/-- What device `d` owes device `c`'s barrier: a unit for each of its signals that goes there. -/
theorem owed_bar (d c : Dev nD) : O₀ d (cell c kBar) () = ∑ k : Fin 7, if tgt d k = c then 1 else 0 := by
  unfold O₀ sigsFrom
  have h0 : sendsFrom d 0 (cell c kBar) () = 0 := by
    by_contra h
    obtain ⟨e, q, j, he⟩ := sendsFrom_pos (Nat.pos_of_ne_zero h)
    exact absurd (cell_eq_iff.mp he).2 (fun h => by cases h)
  rw [Pi.add_apply, Finsupp.add_apply, h0, Nat.zero_add, Finset.sum_apply, Finsupp.finset_sum_apply, ← Finset.range_eq_Ico, ← Fin.sum_univ_eq_sum_range (fun k => sigTally d k (cell c kBar) ())]
  refine Finset.sum_congr rfl fun k _ => ?_
  unfold sigTally
  rw [dif_pos k.isLt, tallyAt_apply]
  by_cases h : tgt d k = c
  · rw [if_pos ⟨by rw [← h], rfl⟩, if_pos h]
  · rw [if_neg (fun h' => h (cell_eq_iff.mp h'.1).1.symm), if_neg h]

/-- What device `d` owes a receive cell of device `c`: the credit of the one send that goes there. -/
theorem owed_recv (d c : Dev nD) (q : Fin 4) (j : Fin 7) :
    O₀ d (cell c (kD (dRecv q j))) () = if d = tgt c j.rev then amt (kD (dRecv q j)) else 0 := by
  have hdc : d = tgt c j.rev ↔ tgt d j = c := ⟨fun h => by rw [h, tgt_rev'], fun h => by rw [← h, tgt_rev]⟩
  unfold O₀ sigsFrom sendsFrom
  have h1 : (∑ k ∈ Finset.Ico 0 7, sigTally d k) (cell c (kD (dRecv q j))) () = 0 := by
    rw [Finset.sum_apply, Finsupp.finset_sum_apply]
    refine Finset.sum_eq_zero fun k _ => ?_
    unfold sigTally
    split
    · rw [tallyAt_apply, if_neg (fun h => absurd (cell_eq_iff.mp h.1).2 (fun h => by cases h))]
    · rfl
  have hq := q.isLt
  have hj := j.isLt
  rw [Pi.add_apply, Finsupp.add_apply, h1, Nat.add_zero, Finset.sum_apply, Finsupp.finset_sum_apply,
    Finset.sum_eq_single (7 * q.val + j.val)]
  · unfold sendTally
    have e1 : (⟨(7 * q.val + j.val) % 7, Nat.mod_lt _ (by decide)⟩ : Fin 7) = j := Fin.ext (by show _ % 7 = j.val; omega)
    have e2 : (⟨(7 * q.val + j.val) / 7, by omega⟩ : Fin 4) = q := Fin.ext (by show _ / 7 = q.val; omega)
    rw [dif_pos (by omega), tallyAt_apply, e1, e2]
    by_cases h : tgt d j = c
    · rw [if_pos ⟨by rw [h], rfl⟩, if_pos (hdc.mpr h)]
    · rw [if_neg (fun h' => h (cell_eq_iff.mp h'.1).1.symm), if_neg (fun h' => h (hdc.mp h'))]
  · intro i hi hne
    unfold sendTally
    split
    · rw [tallyAt_apply, if_neg]
      intro h
      have h2 := (cell_eq_iff.mp h.1).2
      have h3 := (Sum.inr.inj (Sum.inr.inj (Sum.inr.inj (Sum.inr.inj (Sum.inr.inj h2)))))
      have h4 : q.val = i / 7 := congrArg (fun x : Fin 4 × Fin 7 => x.1.val) h3
      have h5 : j.val = i % 7 := congrArg (fun x : Fin 4 × Fin 7 => x.2.val) h3
      omega
    · rfl
  · intro h
    exact absurd (Finset.mem_Ico.mpr ⟨Nat.zero_le _, by omega⟩) h

/-- What all devices owe a barrier cell at launch is seven units. -/
theorem launch_bar (c : Dev nD) :
    tallyOn (cell c kBar) (launchCredit (Pipeline.owing O₀) 0 (cell c kBar)) = (tallyAt (cell c kBar) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
/-- What all devices owe a receive cell at launch is the credit of one copy. -/
theorem launch_recv (c : Dev nD) (q : Fin 4) (j : Fin 7) :
    tallyOn (cell c (kD (dRecv q j))) (launchCredit (Pipeline.owing O₀) 0 (cell c (kD (dRecv q j))))
      = (tallyAt (cell c (kD (dRecv q j))) () (amt (kD (dRecv q j))) : CellTallies nD τ sig Unit) := by
  unfold tallyAt; refine congrArg _ (Finsupp.ext fun u => ?_); cases u
  rw [Pipeline.launchCredit_owing, Finsupp.single_eq_same, Finset.sum_congr rfl fun d _ => owed_recv d c q j,
    Finset.sum_ite_eq' Finset.univ (tgt c j.rev) fun _ => amt (kD (dRecv q j)), if_pos (Finset.mem_univ _)]

/-- The semaphores of a device are its cells. -/
def semEquiv : Kind ≃ SemLoc sig := ⟨semOf, kindOf, kindOf_semOf, semOf_kindOf⟩

/-- The credit of device `c`: that of its barrier wait, and that of its receives. -/
theorem creds (c : Dev nD) :
    (Pipeline.launchCred O₀ c : sProp 𝕄) ⊢ iprop(cred (tallyAt (cell c kBar) () 7)
      ∗ bigSep Finset.univ fun q : Fin 4 => bigSep Finset.univ fun j : Fin 7 => cred (tallyAt (cell c (kD (dRecv q j))) () (amt (kD (dRecv q j))))) := by
  unfold Pipeline.launchCred
  have h : (bigSep Finset.univ fun sm : SemLoc sig => (cred (tallyOn ((c : Thread nD τ), sm) (launchCredit (Pipeline.owing O₀) 0 ((c : Thread nD τ), sm))) : sProp 𝕄))
      = bigSep Finset.univ fun k : Kind => cred (tallyOn (cell c k) (launchCredit (Pipeline.owing O₀) 0 (cell c k))) :=
    bigSep_univ_equiv semEquiv _
  refine (Entails.of_eq h).trans ?_
  rw [kinds_split, copies_split, launch_bar]
  simp only [launch_recv]
  iintro ⟨Hb, -, -, -, -, Hr⟩
  isplitl [Hb] <;> iassumption

end Cert.KernelIdealRun

end
-- ==== Proof.KernelIdealBuffers.lean ====
/-
# Buffers as the device holds them

A buffer held whole is the same as its parts held one by one: an array by its four groups of rows, a scratch buffer by its
four slots, the buffer of landing slots by row group and sender.
-/
module

public import proofs.«01_k».proof.Proof.KernelIdealBody
public import Idealize.ShloMosaic.Lib.Ring

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- If every element belongs to exactly the part that `key` names, the whole buffer is its parts. -/
theorem parts {ℓ : Loc nD τ sig} {B : Type} [Fintype B] [DecidableEq B] (I : B → Finset (Idx ℓ)) (key : Idx ℓ → B)
    (h : ∀ b i, i ∈ I b ↔ key i = b) (f : Buf (Elt F) ℓ) :
    (ℓ ↦{fullShare} f : sProp 𝕄) = bigSep Finset.univ fun b => ℓ ↦[I b]{fullShare} f :=
  Ring.pointsTo_blocks I
    (fun b b' hb => Finset.disjoint_left.mpr fun i hi hi' => hb (((h b i).mp hi).symm.trans ((h b' i).mp hi')))
    (Finset.eq_univ_of_forall fun i => Finset.mem_biUnion.mpr ⟨key i, Finset.mem_univ _, (h _ i).mpr rfl⟩) f

/-- The row group that an element of `x` or of the result lies in. -/
def rowKey (i : S2048x1024.Idx) : Fin 4 := ⟨(i 0).val / 512, by have : (i 0).val < 2048 := (i 0).isLt; omega⟩

/-- Owning `x` is owning its four row groups. -/
theorem x_parts (c : Dev nD) (f : Vec F S2048x1024 .f32) :
    ((((c : Thread nD τ).loc main_arg0) ↦{fullShare} f) : sProp 𝕄) = bigSep Finset.univ fun q : Fin 4 => held c (xRow q) fullShare f :=
  parts (ℓ := (c : Thread nD τ).loc main_arg0) (fun q : Fin 4 => (xRow q).view.set) rowKey
    (fun q i => by
      refine (iff_of_eq (congrArg (fun s : Finset S2048x1024.Idx => i ∈ s) (set_xRow q))).trans ((mem_row q i).trans ?_)
      exact ⟨fun h => Fin.ext h, fun h => congrArg Fin.val h⟩) f
/-- Owning the result is owning its four row groups. -/
theorem out_parts (c : Dev nD) (f : Vec F S2048x1024 .f32) :
    ((((c : Thread nD τ).loc main_v1) ↦{fullShare} f) : sProp 𝕄) = bigSep Finset.univ fun q : Fin 4 => held c (outRow q) fullShare f :=
  parts (ℓ := (c : Thread nD τ).loc main_v1) (fun q : Fin 4 => (outRow q).view.set) rowKey
    (fun q i => by
      refine (iff_of_eq (congrArg (fun s : Finset S2048x1024.Idx => i ∈ s) (set_outRow q))).trans ((mem_row q i).trans ?_)
      exact ⟨fun h => Fin.ext h, fun h => congrArg Fin.val h⟩) f
/-- Owning the buffer of `x` is owning its four slots. -/
theorem xbuf_parts (c : Dev nD) (f : Vec F S4x512x1024 .f32) :
    ((((c : Thread nD τ).loc cc0_scratch0) ↦{fullShare} f) : sProp 𝕄) = bigSep Finset.univ fun q : Fin 4 => held c (xFlat q) fullShare f :=
  parts (ℓ := (c : Thread nD τ).loc cc0_scratch0) (fun q : Fin 4 => (xFlat q).view.set) (fun i : S4x512x1024.Idx => i 0)
    (fun q i => by
      refine (iff_of_eq (congrArg (fun s : Finset S4x512x1024.Idx => i ∈ s) (set_xFlat q))).trans ((mem_grp q i).trans ?_)
      exact ⟨fun h => Fin.ext h, fun h => congrArg Fin.val h⟩) f
/-- Owning the buffer of the result is owning its four slots. -/
theorem obuf_parts (c : Dev nD) (f : Vec F S4x512x1024 .f32) :
    ((((c : Thread nD τ).loc cc0_scratch1) ↦{fullShare} f) : sProp 𝕄) = bigSep Finset.univ fun q : Fin 4 => held c (oFlat q) fullShare f :=
  parts (ℓ := (c : Thread nD τ).loc cc0_scratch1) (fun q : Fin 4 => (oFlat q).view.set) (fun i : S4x512x1024.Idx => i 0)
    (fun q i => by
      refine (iff_of_eq (congrArg (fun s : Finset S4x512x1024.Idx => i ∈ s) (set_oFlat q))).trans ((mem_grp q i).trans ?_)
      exact ⟨fun h => Fin.ext h, fun h => congrArg Fin.val h⟩) f
/-- Owning the buffer of statistics is owning its four pairs. -/
theorem own_parts (c : Dev nD) (f : Vec F S4x2x512 .f32) :
    ((((c : Thread nD τ).loc cc0_scratch4) ↦{fullShare} f) : sProp 𝕄) = bigSep Finset.univ fun q : Fin 4 => held c (ownFlat q) fullShare f :=
  parts (ℓ := (c : Thread nD τ).loc cc0_scratch4) (fun q : Fin 4 => (ownFlat q).view.set) (fun i : S4x2x512.Idx => i 0)
    (fun q i => by
      refine (iff_of_eq (congrArg (fun s : Finset S4x2x512.Idx => i ∈ s) (set_own q))).trans ((mem_own q i).trans ?_)
      exact ⟨fun h => Fin.ext h, fun h => congrArg Fin.val h⟩) f
/-- Owning the landing buffer is owning its slots, one per row group and peer. -/
theorem recv_parts (c : Dev nD) (f : Vec F S4x7x2x512 .f32) :
    ((((c : Thread nD τ).loc cc0_scratch5) ↦{fullShare} f) : sProp 𝕄)
      = bigSep Finset.univ fun q : Fin 4 => bigSep Finset.univ fun j : Fin 7 => held c (recvFlat q j) fullShare f :=
  (parts (ℓ := (c : Thread nD τ).loc cc0_scratch5) (fun b : Fin 4 × Fin 7 => (recvFlat b.1 b.2).view.set)
    (fun i : S4x7x2x512.Idx => ((i 0, i 1) : Fin 4 × Fin 7))
    (fun b i => by
      refine (iff_of_eq (congrArg (fun s : Finset S4x7x2x512.Idx => i ∈ s) (set_recv b.1 b.2))).trans ((mem_slot b.1 b.2 i).trans ?_)
      exact ⟨fun h => Prod.ext (Fin.ext h.1) (Fin.ext h.2), fun h => ⟨congrArg (fun p : Fin 4 × Fin 7 => p.1.val) h, congrArg (fun p : Fin 4 × Fin 7 => p.2.val) h⟩⟩) f).trans
    (bigSep_univ_prod _)

/-- A buffer that is one block of its view. -/
theorem whole_held (c : Dev nD) (b : Ref sig .tc) (f : Buf (Elt F) ((c : Thread nD τ).loc b)) :
    ((((c : Thread nD τ).loc b) ↦{fullShare} f) : sProp 𝕄) = held c (Memref.whole b) fullShare f := by
  show _ = (((c : Thread nD τ).loc b) ↦[(View.whole b).set]{fullShare} f)
  rw [View.set_whole]

end Cert.KernelIdealRun

end
-- ==== Proof.KernelIdealRun.lean ====
/-
# The run

The kernel on all devices, from any memory with zero counters: it ends, the arguments are as they were, the result of every
device holds the contents computed in the step modules, and every counter is back at zero.
-/
module

public import proofs.«01_k».proof.Proof.KernelIdealGhost
public import proofs.«01_k».proof.Proof.KernelIdealBuffers
public import proofs.«01_k».proof.Proof.Gen.KernelIdeal.Points
public import Idealize.ShloMosaic.Lib.Pipeline.CollectiveSegs

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Before and after, in whole buffers -/

/-- The four arrays, the result at whatever it held. -/
def arraysBefore (c : Dev nD) : sProp 𝕄 :=
  iprop((((c : Thread nD τ).loc main_arg0) ↦{fullShare} xArr m c) ∗ (((c : Thread nD τ).loc main_arg1) ↦{fullShare} gammaArr m c)
    ∗ (((c : Thread nD τ).loc main_arg2) ↦{fullShare} betaArr m c) ∗ (((c : Thread nD τ).loc main_v1) ↦{fullShare} m ((c : Thread nD τ).loc main_v1)))
/-- The four arrays, the result computed. -/
def arraysAfter (c : Dev nD) : sProp 𝕄 :=
  iprop((((c : Thread nD τ).loc main_arg0) ↦{fullShare} xArr m c) ∗ (((c : Thread nD τ).loc main_arg1) ↦{fullShare} gammaArr m c)
    ∗ (((c : Thread nD τ).loc main_arg2) ↦{fullShare} betaArr m c) ∗ (((c : Thread nD τ).loc main_v1) ↦{fullShare} outArr m c))
/-- What the launch gives device `c`. -/
def start (c : Dev nD) : sProp 𝕄 :=
  iprop(G' m c ∗ levAts L lv
    ∗ (cred (tallyAt (cell c kBar) () 7)
      ∗ bigSep Finset.univ fun q : Fin 4 => bigSep Finset.univ fun j : Fin 7 => cred (tallyAt (cell c (kD (dRecv q j))) () (amt (kD (dRecv q j)))))
    ∗ arraysBefore m c)

/-- A part held at some contents is room. -/
theorem to_room {sp : Space} {sh : Shape} {e : EltTy} (c : Dev nD) (M : Memref sig .tc sp sh e) (f : M.view.ty.Contents (Elt F)) :
    (held c M fullShare f : sProp 𝕄) ⊢ room c M := by
  iintro H
  iexists f
  iexact H

/-- The landing slots, in the order in which they are given away. -/
theorem slots_given (c : Dev nD) (f : Vec F S4x7x2x512 .f32) :
    ((((c : Thread nD τ).loc cc0_scratch5) ↦{fullShare} f) : sProp 𝕄)
      ⊢ bigSep Finset.univ fun k : Fin 7 => bigSep Finset.univ fun q : Fin 4 => room c (recvFlat q k.rev) := by
  refine (Entails.of_eq (recv_parts c f)).trans ?_
  refine (bigSep_mono fun q _ => bigSep_mono fun j _ => to_room c (recvFlat q j) f).trans ?_
  rw [bigSep_univ_comm]
  exact Entails.of_eq (bigSep_univ_equiv Fin.revPerm fun j : Fin 7 => bigSep Finset.univ fun q : Fin 4 => (room c (recvFlat q j) : sProp 𝕄))

/-- What the launch gives, with the scratch buffers, is what the program starts from. -/
theorem before_intro (c : Dev nD) :
    iprop(linear (F := F) c
      ∗ (cred (tallyAt (cell c kBar) () 7)
        ∗ bigSep Finset.univ fun q : Fin 4 => bigSep Finset.univ fun j : Fin 7 => cred (tallyAt (cell c (kD (dRecv q j))) () (amt (kD (dRecv q j)))))
      ∗ arraysBefore m c ∗ Pipeline.scopedRest cfg0.spec c) ⊢ before m c := by
  rw [scopedRest0_eq]
  unfold linear payToks arraysBefore before group0 xBefore sendBefore recvBefore outBefore pending fresh barBefore
  simp only [pair, kinds_split, copies_split]
  iintro ⟨⟨⟨PB, PI, PO, ⟨P0, P1⟩, PS, PR⟩, TB, TI, TO, ⟨T0, T1⟩, TS, TR⟩, ⟨CB, CR⟩, ⟨Ax, Ag, Ab, Ao⟩, ⟨%f0, S0⟩, ⟨%f1, S1⟩, ⟨%f2, S2⟩, ⟨%f3, S3⟩, ⟨%f4, S4⟩, ⟨%f5, S5⟩⟩
  ihave Ax' := (Entails.of_eq (x_parts c (xArr m c))) $$ Ax
  ihave Ao' := ((Entails.of_eq (out_parts c (m ((c : Thread nD τ).loc main_v1)))).trans (bigSep_mono fun q _ => to_room c (outRow q) _)) $$ Ao
  ihave Ag' := (Entails.of_eq (whole_held c main_arg1 (gammaArr m c))) $$ Ag
  ihave Ab' := (Entails.of_eq (whole_held c main_arg2 (betaArr m c))) $$ Ab
  ihave S0' := ((Entails.of_eq (xbuf_parts c f0)).trans (bigSep_mono fun q _ => to_room c (xFlat q) _)) $$ S0
  ihave S1' := ((Entails.of_eq (obuf_parts c f1)).trans (bigSep_mono fun q _ => to_room c (oFlat q) _)) $$ S1
  ihave S2' := ((Entails.of_eq (whole_held c cc0_scratch2 f2)).trans (to_room c gbufM _)) $$ S2
  ihave S3' := ((Entails.of_eq (whole_held c cc0_scratch3 f3)).trans (to_room c bbufM _)) $$ S3
  ihave S4' := ((Entails.of_eq (own_parts c f4)).trans (bigSep_mono fun q _ => to_room c (ownFlat q) _)) $$ S4
  ihave S5' := (slots_given c f5) $$ S5
  isplitl [Ax' S0' TI PI S4' TS PS TR PR CR S1' Ao' TO PO]
  · isplitl [Ax' S0' TI PI]
    · isplitl [Ax']; · iexact Ax'
      isplitl [S0']; · iexact S0'
      isplitl [TI] <;> iassumption
    isplitl [S4' TS PS TR]
    · isplitl [S4']; · iexact S4'
      isplitl [TS PS]
      · isplitl [TS] <;> iassumption
      iexact TR
    isplitl [PR CR]
    · isplitl [PR] <;> iassumption
    isplitl [S1']; · iexact S1'
    isplitl [Ao']; · iexact Ao'
    isplitl [TO] <;> iassumption
  isplitl [Ag' S2' T0 P0]
  · isplitl [Ag']; · iexact Ag'
    isplitl [S2']; · iexact S2'
    isplitl [T0] <;> iassumption
  isplitl [Ab' S3' T1 P1]
  · isplitl [Ab']; · iexact Ab'
    isplitl [S3']; · iexact S3'
    isplitl [T1] <;> iassumption
  isplitl [S5' TB]
  · isplitl [S5'] <;> iassumption
  isplitl [PB] <;> iassumption

/-- The statistics, all shares back. -/
theorem own_join (c : Dev nD) (f : Vec F S4x2x512 .f32) :
    iprop((bigSep Finset.univ fun q : Fin 4 => held c (ownFlat q) (lent 0) f)
        ∗ bigSep Finset.univ fun q : Fin 4 => bigSep Finset.univ fun j : Fin 7 => held c (ownFlat q) (lent j.succ) f)
      ⊢ ((((c : Thread nD τ).loc cc0_scratch4) ↦{fullShare} f) : sProp 𝕄) := by
  rw [← pair, own_parts]
  exact bigSep_mono fun q _ => Entails.of_eq (held_split (c := c) (M := ownFlat q) f).symm

/-- What the program ends with, in whole buffers and counters. -/
theorem after_elim (c : Dev nD) :
    after m c ⊢ iprop((arraysAfter m c ∗ unscopedSems0 c) ∗ Pipeline.ownSems0 osem c ∗ Pipeline.scopedRest cfg0.spec c) := by
  rw [scopedRest0_eq, ownSems0_eq, unscopedSems0_eq]
  unfold after arraysAfter group5 xAfter sendAfter recvAfter outAfter
  simp only [pair, copies_split]
  iintro ⟨⟨⟨⟨S0, Ax⟩, ZI⟩, ⟨W0, W1, ZS⟩, ⟨S5, ZR⟩, ⟨Ao, S1⟩, ZO⟩, ⟨⟨S2, Ag⟩, Z0⟩, ⟨⟨S3, Ab⟩, Z1⟩, ZB⟩
  ihave Ax' := (Entails.of_eq (x_parts c (xArr m c)).symm) $$ Ax
  ihave Ao' := (Entails.of_eq (out_parts c (outArr m c)).symm) $$ Ao
  ihave Ag' := (Entails.of_eq (whole_held c main_arg1 (gammaArr m c)).symm) $$ Ag
  ihave Ab' := (Entails.of_eq (whole_held c main_arg2 (betaArr m c)).symm) $$ Ab
  ihave S0' := (Entails.of_eq (xbuf_parts c (xBuf m c)).symm) $$ S0
  ihave S1' := (Entails.of_eq (obuf_parts c (oBuf m c)).symm) $$ S1
  ihave S2' := (Entails.of_eq (whole_held c cc0_scratch2 (gammaArr m c)).symm) $$ S2
  ihave S3' := (Entails.of_eq (whole_held c cc0_scratch3 (betaArr m c)).symm) $$ S3
  ihave S4' := (own_join c (ownBuf m c)) $$ [W0 W1]
  · isplitl [W0] <;> iassumption
  ihave S5' := (Entails.of_eq (recv_parts c (recvBuf m c)).symm) $$ S5
  isplitl [Ax' Ag' Ab' Ao' ZB]
  · isplitl [Ax' Ag' Ab' Ao']
    · isplitl [Ax']; · iexact Ax'
      isplitl [Ag']; · iexact Ag'
      isplitl [Ab'] <;> iassumption
    iexact ZB
  isplitl [ZI ZO Z0 Z1 ZS ZR]
  · isplitl [ZI]; · iexact ZI
    isplitl [ZO]; · iexact ZO
    isplitl [Z0 Z1]
    · isplitl [Z0] <;> iassumption
    isplitl [ZS] <;> iassumption
  isplitl [S0']; · iexists _; iexact S0'
  isplitl [S1']; · iexists _; iexact S1'
  isplitl [S2']; · iexists _; iexact S2'
  isplitl [S3']; · iexists _; iexact S3'
  isplitl [S4']; · iexists _; iexact S4'
  iexists _; iexact S5'

/-! ## The call -/

/-- What holds before the body. -/
def Φ₀ (c : Dev nD) : sProp 𝕄 := iprop(∃ K, ctx m K ∗ before m c)

/-- The call has no windows; before its one point a device owes all its signals and sends, after it nothing. -/
def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => after m c
  q _ := fullShare
  owed t := match t with
    | ⟨0, _⟩ => O₀ c
    | ⟨_ + 1, _⟩ => 0

/-- A family over no windows says nothing. -/
theorem no_windows (Φ : Fin 0 → sProp 𝕄) : bigSep Finset.univ Φ = iprop(emp) := by
  rw [Finset.univ_eq_empty, bigSep_empty]; rfl

/-- What holds before the call's one step. -/
theorem Φ_first (c : Dev nD) : (dats m 0 c).Φ t0_0.castSucc = Φ₀ m c := rfl
/-- What holds after the call's one step. -/
theorem Φ_last (c : Dev nD) : (dats m 0 c).Φ t0_0.succ = after m c := rfl
/-- The call's body is the printed body. -/
theorem called : (defs₀ (F := F)) .tc cfg0.body (cfg0.bodyArgs t0_0 (cfg0.slots t0_0)) = bodyAt0 t0_0 := rfl
/-- The call's body is the program over row groups and peers. -/
theorem called_eq : (defs₀ (F := F)) .tc cfg0.body (cfg0.bodyArgs t0_0 (cfg0.slots t0_0)) = program := called.trans body_eq

/-- The body, from what holds before it to what holds after it. -/
theorem body_obligation (c : Dev nD) : BodyObligation (dats (F := F) m 0 c) (defs₀ (F := F)) 𝒱₀ () Set.univ := fun t => by
  rw [fin_N0 t, called_eq, Φ_first, Φ_last, no_windows, no_windows]
  have h (K : Dev nD × Kind → ℕ) : iprop(ctx m K ∗ before m c ∗ owed (F := F) c (O₀ c))
      ⊢ run c (program (F := F)) (fun _ => iprop(after m c ∗ (dats m 0 c).owesAt () t0_0.succ ∗ emp)) :=
    run_post (run_program m K c) fun _ => by
      unfold owed Dat.owesAt Pipeline.owesWithin
      iintro ⟨Ha, ⟨%W', HW⟩⟩
      isplitl [Ha]; · iexact Ha
      isplitl [HW]
      · iexists W'
        isplitr
        · ipureintro; exact fun _ _ => Or.inl trivial
        iexact HW
      iempintro
  unfold Φ₀
  iintro ⟨⟨%K, HC, Hb⟩, HW, -⟩
  iapply (h K)
  isplitl [HC]; · iexact HC
  isplitl [Hb]; · iexact Hb
  unfold owed Dat.owesAt Pipeline.owesWithin
  icases HW with ⟨%W, -, HW⟩
  iexists W
  iexact HW

/-- From the arrays, the levels, the launch credit and the ghost state, a device has what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HA, Hlev, Hcr, -, HG⟩
  ihave Hc := (creds (F := F) c) $$ Hcr
  imodintro
  unfold start arraysBefore
  isplitl
  · isplitl [HG]; · iexact HG
    isplitl [Hlev]; · iexact Hlev
    isplitl [Hc]; · iexact Hc
    iexact HA
  · iempintro

/-- What a device starts with, and the call's buffers and semaphores, give what holds before the body. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold start G' Φ₀
  iintro ⟨⟨⟨%K, HR, Hl⟩, Hlev, Hc, HA⟩, -, HS⟩
  iexists K
  isplitl [HR Hlev]
  · unfold ctx
    isplitl [HR] <;> iassumption
  iapply (before_intro m c)
  isplitl [Hl]; · iexact Hl
  isplitl [Hc]; · iexact Hc
  isplitl [HA] <;> iassumption

/-- What is read off the final state of device `c`. -/
def endsAt (c : Dev nD) (s : MemSt nD τ sig (Elt F)) : Prop :=
  s.mem ((c : Thread nD τ).loc main_arg0) = xArr m c ∧ s.mem ((c : Thread nD τ).loc main_arg1) = gammaArr m c
    ∧ s.mem ((c : Thread nD τ).loc main_arg2) = betaArr m c ∧ s.mem ((c : Thread nD τ).loc main_v1) = outArr m c
    ∧ ∀ sm : SemLoc sig, sm.isScoped .tc = false → s.sem ((c.tc : Thread nD τ), sm) = 0

/-- A buffer held whole is what the memory holds there. -/
theorem read_whole (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  iintro ⟨H, HSI⟩
  ihave H' := (pointsTo_read_all {()} (fun _ : Unit => ℓ) (fun _ => f) s') $$ [H HSI]
  · isplitl [H]
    · rw [bigSep_singleton]; iexact H
    iexact HSI
  icases H' with ⟨%h, HSI⟩
  isplitr
  · ipureintro; exact h () (Finset.mem_singleton_self _)
  iexact HSI

/-- What a device holds at the end fixes what its memory holds. -/
theorem read_end (c : Dev nD) (s' : Phys nD τ sig (Elt F)) :
    iprop((arraysAfter m c ∗ unscopedSems0 c) ∗ (emp : sProp 𝕄) ∗ SI s') ⊢ |={Set.univ}=> iprop(⌜endsAt m c s'.mem⌝ ∗ SI s') := by
  unfold arraysAfter
  iintro ⟨⟨⟨H0, H1, H2, H3⟩, Hu⟩, -, HSI⟩
  ihave R0 := (read_whole _ _ s') $$ [H0 HSI]
  · isplitl [H0] <;> iassumption
  icases R0 with ⟨%h0, HSI⟩
  ihave R1 := (read_whole _ _ s') $$ [H1 HSI]
  · isplitl [H1] <;> iassumption
  icases R1 with ⟨%h1, HSI⟩
  ihave R2 := (read_whole _ _ s') $$ [H2 HSI]
  · isplitl [H2] <;> iassumption
  icases R2 with ⟨%h2, HSI⟩
  ihave R3 := (read_whole _ _ s') $$ [H3 HSI]
  · isplitl [H3] <;> iassumption
  icases R3 with ⟨%h3, HSI⟩
  imod (Pipeline.unscopedSems0_read (X := unscopedSems0 c) (c := c) fupd_intro s') $$ [Hu HSI] with ⟨%h4, HSI⟩
  · isplitl [Hu] <;> iassumption
  imodintro
  isplitr
  · ipureintro; exact ⟨h0, h1, h2, h3, h4⟩
  iexact HSI

set_option maxRecDepth 8000 in
/-- The kernel, from any memory with zero counters: every fair execution on the eight devices ends, with the arguments as
    they were, the result of device `c` holding `outArr m c`, and every counter at zero. -/
theorem run_main : θ_run defs (onTc (τ := τ) (main (F := F))) ⟨m, fun _ => 0, ρ⟩
    (fun r => (∀ c : Dev nD, r.2.mem ((c : Thread nD τ).loc main_arg0) = xArr m c ∧ r.2.mem ((c : Thread nD τ).loc main_arg1) = gammaArr m c
      ∧ r.2.mem ((c : Thread nD τ).loc main_arg2) = betaArr m c ∧ r.2.mem ((c : Thread nD τ).loc main_v1) = outArr m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ w => w.elim0) (hpf := fun _ k => k.elim0)
    (X := start m) (Y := fun c => iprop(arraysAfter m c ∗ unscopedSems0 c)) (Z := fun _ => iprop(emp))
    (hX := start_intro m ρ) (hin := enter m) (hout := after_elim m)
    (QY := endsAt m)
    (hY := read_end m)
    (hQ := fun _ h hs => ⟨fun c => ⟨(h c).2.2.1, (h c).2.2.2.1, (h c).2.2.2.2.1, (h c).2.2.2.2.2.1⟩, sem_eq_zero hs fun c => (h c).2.2.2.2.2.2⟩)

end Cert.KernelIdealRun

end
-- ==== Proof.ValueMath.lean ====
/-
# The arithmetic

The real numbers the literals are, the two formulas for a variance, the sum over eight blocks of columns taken in
any device's order, and the two forms of one normalised element.
-/
module

public import Idealize.ShloMosaic.PureOps.Ideal
public import Idealize.ShloMosaic.Lib.IdealHost
public import Mathlib.Algebra.BigOperators.Fin
public import Mathlib.Algebra.Order.BigOperators.Group.Finset
public import Mathlib.Tactic.FieldSimp
public import Mathlib.Tactic.Ring
public import Mathlib.Tactic.Positivity
public import Mathlib.Tactic.Abel
public import Mathlib.Tactic.FinCases

@[expose] public section

noncomputable section

namespace Cert.Value

open Idealize.ShloMosaic

/-! ## Literals -/

/-- The number of columns, a literal of both programs, is 8192. -/
theorem cols_eq : Ideal.ofBits .f32 0x46000000#32 = ((8192 : ℝ) : EReal) := by
  simp [Ideal.ofBits, Ideal.ieee, -EReal.coe_mul]; norm_num
/-- The zero literal is 0. -/
theorem zero_eq : Ideal.ofBits .f32 0x00000000#32 = (0 : EReal) := by simp [Ideal.ofBits, Ideal.ieee]
/-- The bound of the finiteness condition is `⊤`. -/
theorem inf_eq : Ideal.ofBits .f32 0x7F800000#32 = (⊤ : EReal) := by simp [Ideal.ofBits, Ideal.ieee]
/-- The small constant under the root is a positive real. -/
theorem eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-! ## Sums -/

/-- A sum of reals is the same in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The columns of the whole array, block by block. -/
theorem sum_blocks {M : Type*} [AddCommMonoid M] (f : Fin 8192 → M) :
    ∑ d : Fin 8, ∑ k : Fin 1024, f ⟨d.val * 1024 + k.val, by omega⟩ = ∑ i, f i := by
  rw [← Fintype.sum_prod_type' (f := fun (d : Fin 8) (k : Fin 1024) => f ⟨d.val * 1024 + k.val, by omega⟩)]
  refine Fintype.sum_equiv (finProdFinEquiv (m := 8) (n := 1024)) _ _ fun p => congrArg f (Fin.ext ?_)
  show p.1.val * 1024 + p.2.val = p.2.val + 1024 * p.1.val
  omega

/-- The mean of the squares less the square of the mean is the mean square of the distances from the mean. -/
theorem variance_eq (x : Fin 8192 → ℝ) :
    (∑ i, x i * x i) / 8192 - (∑ i, x i) / 8192 * ((∑ i, x i) / 8192)
      = (∑ i, (x i - (∑ i, x i) / 8192) * (x i - (∑ i, x i) / 8192)) / 8192 := by
  generalize hμ : (∑ i, x i) / 8192 = μ
  have hs : ∑ i, x i = 8192 * μ := by rw [← hμ]; field_simp
  have h : ∑ i, (x i - μ) * (x i - μ) = ∑ i, x i * x i - 2 * μ * ∑ i, x i + 8192 * (μ * μ) := by
    have e : ∀ i, (x i - μ) * (x i - μ) = x i * x i - 2 * μ * x i + μ * μ := fun i => by ring
    simp only [e, Finset.sum_add_distrib, Finset.sum_sub_distrib, ← Finset.mul_sum, Finset.sum_const, Finset.card_univ,
      Fintype.card_fin, nsmul_eq_mul]
    norm_num
    ring
  rw [h, hs]
  field_simp
  ring

/-- A mean of squares is not negative. -/
theorem variance_nonneg (x : Fin 8192 → ℝ) (μ : ℝ) : 0 ≤ (∑ i, (x i - μ) * (x i - μ)) / 8192 :=
  div_nonneg (Finset.sum_nonneg fun i _ => mul_self_nonneg _) (by norm_num)

/-! ## Division, roots -/

/-- A quotient of reals by 8192. -/
theorem div_cols (a : ℝ) : Ideal.div (a : EReal) ((8192 : ℝ) : EReal) = ((a / 8192 : ℝ) : EReal) := by
  unfold Ideal.div
  rw [if_neg (by rw [← EReal.coe_zero, EReal.coe_eq_coe_iff]; norm_num), ← EReal.coe_inv, ← EReal.coe_mul, div_eq_mul_inv]
/-- The square root of a positive real. -/
theorem sqrt_pos {a : ℝ} (h : 0 < a) : Ideal.sqrt (a : EReal) = ((Real.sqrt a : ℝ) : EReal) := if_neg (not_lt.mpr h.le)
/-- The reciprocal root of a positive real. -/
theorem rsqrt_pos {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

/-! ## One element -/

/-- The element as the kernel computes it from a row's sum `S`, the row's sum of squares `Q` and γ, x, β there. -/
def kernelElem (S Q g x b : EReal) : EReal :=
  let μ := Ideal.div S (Ideal.ofBits .f32 0x46000000#32)
  let inv := Ideal.rsqrt (Ideal.div Q (Ideal.ofBits .f32 0x46000000#32) - μ * μ + Ideal.ofBits .f32 0x3727C5AC#32)
  g * (x * inv + (Ideal.ofBits .f32 0x00000000#32 - μ) * inv) + b

/-- The mean of a row. -/
def rowMean (r : Fin 8192 → EReal) : EReal := Ideal.div (∑ i, r i) (Ideal.ofBits .f32 0x46000000#32)
/-- The variance of a row about its mean. -/
def rowVar (r : Fin 8192 → EReal) : EReal :=
  Ideal.div (∑ i, (r i - rowMean r) * (r i - rowMean r)) (Ideal.ofBits .f32 0x46000000#32)
/-- The element as the problem states it: of row `r`, at a column where γ, x, β are `g`, `x`, `b`. -/
def normElem (r : Fin 8192 → EReal) (g x b : EReal) : EReal :=
  Ideal.div (g * (x - rowMean r)) (Ideal.sqrt (rowVar r + Ideal.ofBits .f32 0x3727C5AC#32)) + b

/-- On a row of reals the two are equal, whatever γ and β. -/
theorem elem_eq (r : Fin 8192 → ℝ) (g b : EReal) (l : Fin 8192) :
    kernelElem (∑ i, (r i : EReal)) (∑ i, (r i : EReal) * (r i : EReal)) g (r l) b
      = normElem (fun i => (r i : EReal)) g (r l) b := by
  obtain ⟨e, he, hE⟩ := eps_pos
  have hμ : rowMean (fun i => (r i : EReal)) = (((∑ i, r i) / 8192 : ℝ) : EReal) := by
    unfold rowMean; rw [cols_eq, ← coe_sum, div_cols]
  have hv : rowVar (fun i => (r i : EReal))
      = (((∑ i, (r i - (∑ i, r i) / 8192) * (r i - (∑ i, r i) / 8192)) / 8192 : ℝ) : EReal) := by
    unfold rowVar
    simp only [hμ, cols_eq, ← EReal.coe_sub, ← EReal.coe_mul, ← coe_sum, div_cols]
  have hp := add_pos_of_nonneg_of_pos (variance_nonneg r ((∑ i, r i) / 8192)) he
  unfold normElem kernelElem
  simp only [hμ, hv, hE, cols_eq, zero_eq, ← EReal.coe_mul, ← coe_sum, div_cols, ← EReal.coe_sub, variance_eq, ← EReal.coe_add,
    sqrt_pos hp, rsqrt_pos hp, zero_sub, ← EReal.coe_neg]
  have hs : Real.sqrt ((∑ i, (r i - (∑ i, r i) / 8192) * (r i - (∑ i, r i) / 8192)) / 8192 + e) ≠ 0 :=
    (Real.sqrt_pos.mpr hp).ne'
  unfold Ideal.div
  rw [if_neg (by rw [← EReal.coe_zero, EReal.coe_eq_coe_iff]; exact hs), ← EReal.coe_inv, mul_assoc, ← EReal.coe_mul]
  congr 3
  ring

end Cert.Value

end
-- ==== Proof.ValueBlock.lean ====
/-
# What one block of the kernel computes

The two row statistics of a block, and one element of the block of the result, over the extended reals.
-/
module

public import proofs.«01_k».proof.Proof.KernelIdealValues
public import proofs.«01_k».proof.Proof.ValueMath
public import Idealize.ShloMosaic.Lib.ValueIdx
public import Idealize.ShloMosaic.Lib.Pipeline.Value
public import Idealize.ShloMosaic.Lib.Pointwise.Reduce

@[expose] public section

noncomputable section

namespace Cert.Value

open Cert.KernelIdeal Cert.KernelIdeal.Gen Cert.KernelIdealRun
open Idealize.ShloMosaic hiding ix1 ix2 ix3 ix4
open Idealize.ShloMosaic.ValueIdx

/-- The flat view of a 1×512×1024 block. -/
theorem flat_block (x : FVec Ideal S1x512x1024 .f32) (r : Fin 512) (k : Fin 1024) :
    shapeCast S512x1024 x shapeCasts_S1x512x1024_S512x1024 (ix2 r k) = x (ix3 (0 : Fin 1) r k) :=
  shapeCast_apply x _ _ _ (by
    rw [Shape.rowMajor_val_two, Shape.rowMajor_val_three]
    show (0 * 512 + r.val) * 1024 + k.val = r.val * 1024 + k.val
    omega)

/-- The sum along a row of a 512×1024 array. -/
theorem row_sum (x : FVec Ideal S512x1024 .f32) (r : Fin 512) :
    multiReduction .add [1] S512 x 0x00000000#32 reduces_S512x1024_S512 (.inl rfl) rfl (ix1 r) = ∑ k : Fin 1024, x (ix2 r k) :=
  Ideal.reduceAdd_r2_a1 _ x (ix1 r)

/-- A vector of 512 seen as 1×1×512. -/
theorem stat_cast (x : FVec Ideal S512 .f32) (r : Fin 512) :
    shapeCast S1x1x512 x shapeCasts_S512_S1x1x512 (ix3 (0 : Fin 1) (0 : Fin 1) r) = x (ix1 r) :=
  shapeCast_apply x _ _ _ (by
    rw [Shape.rowMajor_val_one, Shape.rowMajor_val_three]
    show r.val = (0 * 1 + 0) * 512 + r.val
    omega)

/-- The first statistic of a row is the sum of the row. -/
theorem rowSums_apply (x : Vec Ideal S1x512x1024 .f32) (r : Fin 512) :
    rowSums x (ix3 (0 : Fin 1) (0 : Fin 1) r) = ∑ k : Fin 1024, x (ix3 (0 : Fin 1) r k) :=
  (stat_cast _ r).trans ((row_sum _ r).trans (Finset.sum_congr rfl fun k _ => flat_block x r k))

/-- The second statistic of a row is the sum of its squares. -/
theorem rowSquares_apply (x : Vec Ideal S1x512x1024 .f32) (r : Fin 512) :
    rowSquares x (ix3 (0 : Fin 1) (0 : Fin 1) r)
      = ∑ k : Fin 1024, x (ix3 (0 : Fin 1) r k) * x (ix3 (0 : Fin 1) r k) :=
  (stat_cast _ r).trans ((row_sum _ r).trans (Finset.sum_congr rfl fun k _ =>
    (mulf_apply _ _ _).trans (congrArg₂ (· * ·) (flat_block x r k) (flat_block x r k))))

/-- A pair of statistics seen flat. -/
theorem flat_pair (o : FVec Ideal S1x2x512 .f32) (h : Fin 2) (r : Fin 512) :
    shapeCast S2x512 o shapeCasts_S1x2x512_S2x512 (ix2 h r) = o (ix3 (0 : Fin 1) h r) :=
  shapeCast_apply o _ _ _ (by
    rw [Shape.rowMajor_val_two, Shape.rowMajor_val_three]
    show (0 * 2 + h.val) * 512 + r.val = h.val * 512 + r.val
    omega)

/-- A received pair of statistics seen flat. -/
theorem flat_slot (o : FVec Ideal S1x1x2x512 .f32) (h : Fin 2) (r : Fin 512) :
    shapeCast S2x512 o shapeCasts_S1x1x2x512_S2x512 (ix2 h r) = o (ix4 (0 : Fin 1) (0 : Fin 1) h r) :=
  shapeCast_apply o _ _ _ (by
    rw [Shape.rowMajor_val_two, Shape.rowMajor_val_four]
    show ((0 * 1 + 0) * 2 + h.val) * 512 + r.val = h.val * 512 + r.val
    omega)

/-- A statistic summed over the device's own and the seven received, in the order the kernel adds them. -/
def total (o : Vec Ideal S1x2x512 .f32) (v : Fin 7 → Vec Ideal S1x1x2x512 .f32) (h : Fin 2) (r : Fin 512) : EReal :=
  o (ix3 (0 : Fin 1) h r) + v 0 (ix4 (0 : Fin 1) (0 : Fin 1) h r) + v 1 (ix4 (0 : Fin 1) (0 : Fin 1) h r)
    + v 2 (ix4 (0 : Fin 1) (0 : Fin 1) h r) + v 3 (ix4 (0 : Fin 1) (0 : Fin 1) h r) + v 4 (ix4 (0 : Fin 1) (0 : Fin 1) h r)
    + v 5 (ix4 (0 : Fin 1) (0 : Fin 1) h r) + v 6 (ix4 (0 : Fin 1) (0 : Fin 1) h r)

/-- The flat array of totals. -/
def totals (o : Vec Ideal S1x2x512 .f32) (v : Fin 7 → Vec Ideal S1x1x2x512 .f32) : FVec Ideal S2x512 .f32 :=
  addf (addf (addf (k0_pay13 o (v 0) (v 1) (v 2) (v 3)) (shapeCast S2x512 (v 4) shapeCasts_S1x1x2x512_S2x512))
    (shapeCast S2x512 (v 5) shapeCasts_S1x1x2x512_S2x512)) (shapeCast S2x512 (v 6) shapeCasts_S1x1x2x512_S2x512)

/-- An element of the totals is the total of that statistic and row. -/
theorem totals_apply (o : Vec Ideal S1x2x512 .f32) (v : Fin 7 → Vec Ideal S1x1x2x512 .f32) (h : Fin 2) (r : Fin 512) :
    totals o v (ix2 h r) = total o v h r := by
  unfold totals k0_pay13 total
  simp only [addf_apply, flat_pair, flat_slot]

/-- One statistic's 512 totals, cut out of the flat array. -/
theorem row0 (t : FVec Ideal S2x512 .f32) (r : Fin 512) :
    shapeCast S512 (extractStridedSlice S1x512 ![0, 0] t slices_S2x512_o0_0_S1x512) shapeCasts_S1x512_S512 (ix1 r)
      = t (ix2 (0 : Fin 2) r) :=
  (shapeCast_apply _ _ _ (ix2 (0 : Fin 1) r) (by
    rw [Shape.rowMajor_val_two, Shape.rowMajor_val_one]
    show 0 * 512 + r.val = r.val
    omega)).trans (extractStridedSlice_apply _ _ _ _ _ (Fin.forall_fin_two.mpr ⟨rfl, (Nat.zero_add _).symm⟩))
/-- The same for the other statistic. -/
theorem row1 (t : FVec Ideal S2x512 .f32) (r : Fin 512) :
    shapeCast S512 (extractStridedSlice S1x512 ![1, 0] t slices_S2x512_o1_0_S1x512) shapeCasts_S1x512_S512 (ix1 r)
      = t (ix2 (1 : Fin 2) r) :=
  (shapeCast_apply _ _ _ (ix2 (0 : Fin 1) r) (by
    rw [Shape.rowMajor_val_two, Shape.rowMajor_val_one]
    show 0 * 512 + r.val = r.val
    omega)).trans (extractStridedSlice_apply _ _ _ _ _ (Fin.forall_fin_two.mpr ⟨rfl, (Nat.zero_add _).symm⟩))

/-- A vector of 512 spread along the rows of a 512×1024 array. -/
theorem spread_col (x : FVec Ideal S512 .f32) (r : Fin 512) (k : Fin 1024) :
    broadcastTo S512x1024 (shapeCast S512x1 x shapeCasts_S512_S512x1) broadcasts_S512x1_S512x1024 (ix2 r k) = x (ix1 r) :=
  (broadcastTo_apply _ _ _ (ix2 r (0 : Fin 1)) (Fin.forall_fin_two.mpr ⟨rfl, rfl⟩)).trans
    (shapeCast_apply _ _ _ _ (by
      rw [Shape.rowMajor_val_two, Shape.rowMajor_val_one]
      show r.val = r.val * 1 + 0
      omega))

/-- A row spread over the rows of a 512×1024 array. -/
theorem spread_row (x : FVec Ideal S1x1024 .f32) (r : Fin 512) (k : Fin 1024) :
    broadcastTo S512x1024 x broadcasts_S1x1024_S512x1024 (ix2 r k) = x (ix2 (0 : Fin 1) k) :=
  broadcastTo_apply _ _ _ (ix2 (0 : Fin 1) k) (Fin.forall_fin_two.mpr ⟨rfl, rfl⟩)

/-- The reciprocal root of an array, element by element. -/
theorem rsqrt_apply {s : Shape} (x : FVec Ideal s .f32) (i : s.Idx) : rsqrt x i = Ideal.rsqrt (x i) := rfl

/-- A 512×1024 array seen as a 1×512×1024 block. -/
theorem out_block (x : FVec Ideal S512x1024 .f32) (r : Fin 512) (k : Fin 1024) :
    shapeCast S1x512x1024 x shapeCasts_S512x1024_S1x512x1024 (ix3 (0 : Fin 1) r k) = x (ix2 r k) :=
  shapeCast_apply x _ _ _ (by
    rw [Shape.rowMajor_val_two, Shape.rowMajor_val_three]
    show r.val * 1024 + k.val = (0 * 512 + r.val) * 1024 + k.val
    omega)

/-- One element of a block of the result. -/
theorem normBlock_apply (o : Vec Ideal S1x2x512 .f32) (v : Fin 7 → Vec Ideal S1x1x2x512 .f32) (g : Vec Ideal S1x1024 .f32)
    (x : Vec Ideal S1x512x1024 .f32) (b : Vec Ideal S1x1024 .f32) (r : Fin 512) (k : Fin 1024) :
    normBlock o v g x b (ix3 (0 : Fin 1) r k)
      = kernelElem (total o v 0 r) (total o v 1 r) (g (ix2 (0 : Fin 1) k)) (x (ix3 (0 : Fin 1) r k)) (b (ix2 (0 : Fin 1) k)) := by
  show k0_pay16 _ _ _ = _
  unfold k0_pay16
  refine (out_block _ r k).trans ?_
  show k0_pay14 _ _ _ _ _ _ (ix2 r k) + k0_pay15 _ (ix2 r k) = _
  refine congrArg₂ (· + ·) ?_ (spread_row b r k)
  unfold k0_pay14
  show mulf _ _ (ix2 r k) = _
  rw [mulf_apply, addf_apply, mulf_apply, spread_row, spread_col, spread_col, flat_block, mulf_apply, subf_apply]
  have ht : ∀ h, totals o v (ix2 h r) = total o v h r := fun h => totals_apply o v h r
  unfold totals at ht
  generalize addf (addf (addf (k0_pay13 o (v 0) (v 1) (v 2) (v 3)) (shapeCast S2x512 (v 4) shapeCasts_S1x1x2x512_S2x512))
    (shapeCast S2x512 (v 5) shapeCasts_S1x1x2x512_S2x512)) (shapeCast S2x512 (v 6) shapeCasts_S1x1x2x512_S2x512) = t at ht ⊢
  simp only [rsqrt_apply, addf_apply, subf_apply, mulf_apply, divf_apply, row0, row1, ht, broadcast_apply]
  rfl

end Cert.Value

end
-- ==== Proof.ValueResult.lean ====
/-
# What the result array holds

One element of a device's block of the result, as a function of the blocks of x on all eight devices and of the
device's own γ and β, over the extended reals.
-/
module

public import proofs.«01_k».proof.Proof.ValueBlock

@[expose] public section

noncomputable section

namespace Cert.Value

open Cert.KernelIdeal Cert.KernelIdeal.Gen Cert.KernelIdealRun
open Idealize.ShloMosaic hiding ix1 ix2 ix3 ix4
open Idealize.ShloMosaic.ValueIdx

variable (m : (ℓ : Loc nD τ sig) → Buf (Elt Ideal) ℓ)

/-- The block the body reads holds the rows of its row group. -/
theorem xVec_apply (c : Dev nD) (q : Fin 4) (r : Fin 512) (k : Fin 1024) :
    xVec m c q (ix3 (0 : Fin 1) r k) = xArr m c (ix2 (rowOf q r) k) := by
  show xBuf m c ((rGrp q).emb (ix3 (0 : Fin 1) r k)) = xBuf m c (ix3 q r k)
  refine congrArg (xBuf m c) (funext fun a => Fin.ext ?_)
  rw [emb_val]
  match a with
  | ⟨0, _⟩ => rfl
  | ⟨1, _⟩ => exact Nat.zero_add _
  | ⟨2, _⟩ => exact Nat.zero_add _

/-- Of row `R` of device `d`'s block: the sum, or the sum of squares. -/
def stat (d : Dev nD) (R : Fin 2048) (h : Fin 2) : EReal :=
  if h = 0 then ∑ k : Fin 1024, xArr m d (ix2 R k) else ∑ k : Fin 1024, xArr m d (ix2 R k) * xArr m d (ix2 R k)

/-- The statistics' buffer holds the statistics. -/
theorem ownBuf_apply (d : Dev nD) (q : Fin 4) (h : Fin 2) (r : Fin 512) :
    ownBuf m d (ix3 q h r) = stat m d (rowOf q r) h := by
  unfold ownBuf stat
  by_cases hh : h = 0
  · subst hh
    rw [if_pos rfl]
    refine (if_pos rfl).trans ((rowSums_apply _ r).trans (Finset.sum_congr rfl fun k _ => xVec_apply m d q r k))
  · rw [if_neg hh]
    refine (if_neg fun e => hh (Fin.ext e)).trans ((rowSquares_apply _ r).trans (Finset.sum_congr rfl fun k _ =>
      congrArg₂ (· * ·) (xVec_apply m d q r k) (xVec_apply m d q r k)))

/-- The pair of its own statistics that the body reads. -/
theorem own_read (c : Dev nD) (q : Fin 4) (h : Fin 2) (r : Fin 512) :
    ownM.view.readAt (Elt Ideal) (rOwn q).toLoadRect (ownBuf m c) (ix3 (0 : Fin 1) h r) = stat m c (rowOf q r) h := by
  refine Eq.trans ?_ (ownBuf_apply m c q h r)
  show ownBuf m c ((rOwn q).emb (ix3 (0 : Fin 1) h r)) = _
  refine congrArg (ownBuf m c) (funext fun a => Fin.ext ?_)
  rw [emb_val]
  match a with
  | ⟨0, _⟩ => rfl
  | ⟨1, _⟩ => exact Nat.zero_add _
  | ⟨2, _⟩ => exact Nat.zero_add _

/-- The pair that the body reads from a landing slot is the sender's. -/
theorem recv_read (c : Dev nD) (q : Fin 4) (j : Fin 7) (h : Fin 2) (r : Fin 512) :
    recvM.view.readAt (Elt Ideal) (rSlot q j).toLoadRect (recvBuf m c) (ix4 (0 : Fin 1) (0 : Fin 1) h r)
      = stat m (tgt c j.rev) (rowOf q r) h := by
  refine Eq.trans ?_ (ownBuf_apply m (tgt c j.rev) q h r)
  show recvBuf m c ((rSlot q j).emb (ix4 (0 : Fin 1) (0 : Fin 1) h r)) = recvBuf m c (ix4 q j h r)
  refine congrArg (recvBuf m c) (funext fun a => Fin.ext ?_)
  rw [emb_val]
  match a with
  | ⟨0, _⟩ => rfl
  | ⟨1, _⟩ => rfl
  | ⟨2, _⟩ => exact Nat.zero_add _
  | ⟨3, _⟩ => exact Nat.zero_add _

/-- A device and its seven peers are the eight devices. -/
theorem sum_peers {M : Type*} [AddCommMonoid M] (f : Dev nD → M) (c : Dev nD) :
    f c + f (tgt c (Fin.rev 0)) + f (tgt c (Fin.rev 1)) + f (tgt c (Fin.rev 2)) + f (tgt c (Fin.rev 3))
      + f (tgt c (Fin.rev 4)) + f (tgt c (Fin.rev 5)) + f (tgt c (Fin.rev 6)) = ∑ d : Fin 8, f d := by
  have e : ∀ c : Fin 8, [c, tgt c (Fin.rev 0), tgt c (Fin.rev 1), tgt c (Fin.rev 2), tgt c (Fin.rev 3), tgt c (Fin.rev 4),
      tgt c (Fin.rev 5), tgt c (Fin.rev 6)].Perm (List.finRange 8) := by decide
  rw [Fin.sum_univ_def, ← ((e c).map f).sum_eq]
  simp only [List.map_cons, List.map_nil, List.sum_cons, List.sum_nil, add_zero, add_assoc]

/-- A total is the statistic summed over the eight devices. -/
theorem total_eq (c : Dev nD) (q : Fin 4) (h : Fin 2) (r : Fin 512) :
    total (ownM.view.readAt (Elt Ideal) (rOwn q).toLoadRect (ownBuf m c))
      (fun j => recvM.view.readAt (Elt Ideal) (rSlot q j).toLoadRect (recvBuf m c)) h r
      = ∑ d : Fin 8, stat m d (rowOf q r) h := by
  unfold total
  beta_reduce
  rw [own_read, recv_read, recv_read, recv_read, recv_read, recv_read, recv_read, recv_read]
  exact sum_peers (fun d => stat m d (rowOf q r) h) c

/-- A row of 1024 as the body reads it. -/
theorem vec_read (g : Vec Ideal S1x1024 .f32) (k : Fin 1024) :
    gbufM.view.readAt (Elt Ideal) rVec.toLoadRect g (ix2 (0 : Fin 1) k) = g (ix2 (0 : Fin 1) k) := by
  show g (rVec.emb (ix2 (0 : Fin 1) k)) = _
  refine congrArg g (funext fun a => Fin.ext ?_)
  rw [emb_val]
  match a with
  | ⟨0, _⟩ => rfl
  | ⟨1, _⟩ => exact Nat.zero_add _

/-- One element of device `c`'s block of the result. -/
theorem outArr_apply (c : Dev nD) (R : Fin 2048) (l : Fin 1024) :
    outArr m c (ix2 R l) = kernelElem (∑ d : Fin 8, stat m d R 0) (∑ d : Fin 8, stat m d R 1)
      (gammaArr m c (ix2 (0 : Fin 1) l)) (xArr m c (ix2 R l)) (betaArr m c (ix2 (0 : Fin 1) l)) := by
  have hq : R.val / 512 < 4 := by omega
  have hR : rowOf ⟨R.val / 512, hq⟩ ⟨R.val % 512, Nat.mod_lt _ (by decide)⟩ = R := Fin.ext (by show 512 * (R.val / 512) + R.val % 512 = R.val; omega)
  show outVec m c ⟨R.val / 512, hq⟩ (ix3 (0 : Fin 1) ⟨R.val % 512, Nat.mod_lt _ (by decide)⟩ l) = _
  unfold outVec
  rw [normBlock_apply, total_eq, total_eq, xVec_apply, hR]
  exact congrArg₂ (fun g b => kernelElem _ _ g _ b) (vec_read _ l) (vec_read _ l)

end Cert.Value

end
-- ==== Proof.ValueReference.lean ====
/-
# What the reference computes

One element of the reference's result over the extended reals.
-/
module

public import proofs.«01_k».proof.Proof.Gen.ReferenceIdeal
public import proofs.«01_k».proof.Proof.Gen.ReferenceIdeal.Run
public import proofs.«01_k».proof.Proof.ValueMath
public import Idealize.ShloMosaic.Lib.ValueIdx
public import Idealize.ShloMosaic.Lib.Pipeline.Value
public import Idealize.ShloMosaic.Lib.Pointwise.Reduce

@[expose] public section

noncomputable section

namespace Cert.Value

open Cert.ReferenceIdeal Cert.ReferenceIdeal.Gen
open Idealize.ShloMosaic hiding ix1 ix2 ix3 ix4
open Idealize.ShloMosaic.ValueIdx
open Idealize.SL.Sem

section Arrays

variable (x : FVec Ideal S2048x8192 .f32) (g b : FVec Ideal S1x8192 .f32)

/-- A number per row from the row sums of an array, as a column. -/
def sumCol : FVec Ideal S2048x1 .f32 :=
  broadcastInDim S2048x1 ![0] bcast_S2048_S2048x1_0
    (Host.reduceAdd x (constant S_ .f32 0x00000000#32) reducesTo_S2048x8192_S2048_d1 h_S_)
/-- The column of means. -/
def meanCol : FVec Ideal S2048x1 .f32 :=
  Host.divf (sumCol x) (broadcastInDim S2048x1 ![] bcast_S_S2048x1 (constant S_ .f32 0x46000000#32))
/-- The distances from the mean. -/
def distArr : FVec Ideal S2048x8192 .f32 :=
  subf x (broadcastInDim S2048x8192 ![0, 1] bcast_S2048x1_S2048x8192_0_1 (meanCol x))
/-- The divisor of the variance, as the reference computes it. -/
def degrees : FVec Ideal S_ .f32 := subf (constant S_ .f32 0x46000000#32) (sitofp .f32 (constantI S_ 32 0#32))
/-- The column of variances. -/
def varCol : FVec Ideal S2048x1 .f32 :=
  select (broadcastInDim S2048x1 ![] bcast_S_S2048x1 (cmpf .ogt degrees (constant S_ .f32 0x00000000#32)))
    (Host.divf (sumCol (mulf (distArr x) (distArr x))) (broadcastInDim S2048x1 ![] bcast_S_S2048x1 degrees))
    (broadcastInDim S2048x1 ![] bcast_S_S2048x1 (id (constant S_ .f32 0x7FC00000#32)))
/-- The result. -/
def refArr : FVec Ideal S2048x8192 .f32 :=
  addf (Host.divf (mulf (broadcastInDim S2048x8192 ![0, 1] bcast_S1x8192_S2048x8192_0_1 g) (distArr x))
      (broadcastInDim S2048x8192 ![0, 1] bcast_S2048x1_S2048x8192_0_1
        (Host.sqrt (addf (varCol x) (broadcastInDim S2048x1 ![] bcast_S_S2048x1 (constant S_ .f32 0x3727C5AC#32))))))
    (broadcastInDim S2048x8192 ![0, 1] bcast_S1x8192_S2048x8192_0_1 b)

/-- A column spread over the columns of the array. -/
theorem col_spread (v : FVec Ideal S2048x1 .f32) (R : Fin 2048) (k : Fin 8192) :
    broadcastInDim S2048x8192 ![0, 1] bcast_S2048x1_S2048x8192_0_1 v (ix2 R k) = v (ix2 R (0 : Fin 1)) :=
  broadcastInDim_apply _ _ _ _ _ (Fin.forall_fin_two.mpr ⟨rfl, rfl⟩)
/-- A row spread over the rows of the array. -/
theorem row_spread (v : FVec Ideal S1x8192 .f32) (R : Fin 2048) (k : Fin 8192) :
    broadcastInDim S2048x8192 ![0, 1] bcast_S1x8192_S2048x8192_0_1 v (ix2 R k) = v (ix2 (0 : Fin 1) k) :=
  broadcastInDim_apply _ _ _ _ _ (Fin.forall_fin_two.mpr ⟨rfl, rfl⟩)

/-- A row sum. -/
theorem sumCol_apply (R : Fin 2048) : sumCol x (ix2 R (0 : Fin 1)) = ∑ k : Fin 8192, x (ix2 R k) := by
  unfold sumCol
  refine (broadcastInDim_apply _ _ _ _ (ix1 R) (fun a => by match a with | ⟨0, _⟩ => rfl)).trans ?_
  refine (Ideal.hostReduceAdd_r2_a1 _ x _ (ix1 R)).trans ?_
  show Ideal.ofBits .f32 0x00000000#32 + _ = _
  rw [zero_eq, zero_add]
  rfl
/-- A row's mean. -/
theorem meanCol_apply (R : Fin 2048) : meanCol x (ix2 R (0 : Fin 1)) = rowMean fun k => x (ix2 R k) := by
  unfold meanCol rowMean
  rw [hostDivf_apply, sumCol_apply]
  rfl
/-- A distance from the mean. -/
theorem distArr_apply (R : Fin 2048) (k : Fin 8192) :
    distArr x (ix2 R k) = x (ix2 R k) - rowMean fun k => x (ix2 R k) := by
  unfold distArr
  rw [subf_apply, col_spread, meanCol_apply]

/-- The divisor of the variance is the number of columns. -/
theorem degrees_eq (i : S_.Idx) : degrees i = Ideal.ofBits .f32 0x46000000#32 := by
  show Ideal.ofBits .f32 0x46000000#32 - (((0#32 : BitVec 32).toInt : ℝ) : EReal) = _
  simp
/-- It is positive. -/
theorem degrees_pos (i : S_.Idx) : cmpf .ogt degrees (constant S_ .f32 0x00000000#32) i = 1#1 := by
  show Ideal.cmp .ogt (degrees i) (Ideal.ofBits .f32 0x00000000#32) = 1#1
  rw [degrees_eq, cols_eq, zero_eq]
  unfold Ideal.cmp
  have h : (0 : EReal) < ((8192 : ℝ) : EReal) := by rw [← EReal.coe_zero, EReal.coe_lt_coe_iff]; norm_num
  simp [h]

/-- A row's variance. -/
theorem varCol_apply (R : Fin 2048) : varCol x (ix2 R (0 : Fin 1)) = rowVar fun k => x (ix2 R k) := by
  unfold varCol rowVar
  rw [select_apply, show broadcastInDim S2048x1 ![] bcast_S_S2048x1
    (cmpf .ogt degrees (constant S_ .f32 0x00000000#32)) (ix2 R (0 : Fin 1)) = 1#1 from degrees_pos _, select_one,
    hostDivf_apply, sumCol_apply]
  refine congrArg₂ Ideal.div (Finset.sum_congr rfl fun k _ => ?_) (degrees_eq _)
  rw [mulf_apply, distArr_apply]

/-- One element of the reference's result. -/
theorem refArr_apply (R : Fin 2048) (k : Fin 8192) :
    refArr x g b (ix2 R k) = normElem (fun k => x (ix2 R k)) (g (ix2 (0 : Fin 1) k)) (x (ix2 R k)) (b (ix2 (0 : Fin 1) k)) := by
  unfold refArr normElem
  rw [addf_apply, hostDivf_apply, mulf_apply, row_spread, row_spread, distArr_apply, col_spread]
  refine congrArg (fun z => Ideal.div _ (Ideal.sqrt z) + _) ?_
  exact congrArg (· + _) (varCol_apply x R)

end Arrays

/-- The reference ends with this array in its result and its arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = refArr (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans rfl, (h c).2⟩) (Cert.ReferenceIdeal.Value.run m ρ)

end Cert.Value

end
-- ==== Proof.ValueEquation.lean ====
/-
# The equation

Each device's block of the kernel's result is its block of the reference's result, when every element of x is a real.
-/
module

public import proofs.«01_k».proof.Proof.ValueResult
public import proofs.«01_k».proof.Proof.ValueReference
public import proofs.«01_k».proof.Pre_x_finite_KernelIdeal
public import Idealize.ShloMosaic.Lib.Layout

@[expose] public section

noncomputable section

namespace Cert.Value

open Idealize.ShloMosaic hiding ix1 ix2 ix3 ix4 eq_ix2
open Idealize.ShloMosaic.ValueIdx
open Cert.KernelIdealRun (xArr gammaArr betaArr outArr)

/-- The whole x, and the whole γ or β. -/
abbrev WholeX : Shape := ⟨2, ![2048, 8192]⟩
/-- The shape of all of γ or of β as a row. -/
abbrev WholeRow : Shape := ⟨2, ![1, 8192]⟩
/-- Column `k` of block `c` among the columns of the whole. -/
abbrev colOf (c : Fin 8) (k : Fin 1024) : Fin 8192 := ⟨c.val * 1024 + k.val, by omega⟩

/-- An element of a block of x, in the whole. -/
theorem block_x (c : Fin 8) (x : WholeX.Idx → EReal) (h) (R : Fin 2048) (k : Fin 1024) :
    Layout.block ⟨2, ![2048, 1024]⟩ ⟨2, ![2048, 8192]⟩ 1 8 c x h (ix2 R k) = x (ix2 R (colOf c k)) := by
  rw [Layout.block_apply]
  refine congrArg x (funext fun a => Fin.ext ?_)
  match a with
  | ⟨0, _⟩ => exact (Layout.idx_cols_val h c _).1
  | ⟨1, _⟩ => exact (Layout.idx_cols_val h c _).2
/-- An element of a block of γ or β, in the whole. -/
theorem block_row (c : Fin 8) (x : WholeRow.Idx → EReal) (h) (k : Fin 1024) :
    Layout.block ⟨2, ![1, 1024]⟩ ⟨2, ![1, 8192]⟩ 1 8 c x h (ix2 (0 : Fin 1) k) = x (ix2 (0 : Fin 1) (colOf c k)) := by
  rw [Layout.block_apply]
  refine congrArg x (funext fun a => Fin.ext ?_)
  match a with
  | ⟨0, _⟩ => exact (Layout.idx_cols_val h c _).1
  | ⟨1, _⟩ => exact (Layout.idx_cols_val h c _).2

/-- An extended real whose absolute value is below `⊤` is a real. -/
theorem real_of_abs_lt {z : EReal} (h : max z (-z) < ⊤) : ∃ r : ℝ, z = (r : EReal) := by
  induction z using EReal.rec with
  | bot => exact absurd h (by simp)
  | coe r => exact ⟨r, rfl⟩
  | top => exact absurd h (by simp)

/-- Where the finiteness condition holds of a block, the block's elements are reals. -/
theorem real_of_pre [Cert.Pre_x_finite_KernelIdeal.Facts] (x : FVec Ideal Cert.Pre_x_finite_KernelIdeal.S2048x1024 .f32)
    (g b : FVec Ideal Cert.Pre_x_finite_KernelIdeal.S1x1024 .f32)
    (h : Cert.Pre_x_finite_KernelIdeal.fn (F := Ideal) x g b = fun _ => 1#1) (i : Cert.Pre_x_finite_KernelIdeal.S2048x1024.Idx) :
    ∃ r : ℝ, x i = (r : EReal) := by
  refine real_of_abs_lt ?_
  have h1 : Ideal.cmp .olt (max (x i) (-(x i))) (Ideal.ofBits .f32 0x7F800000#32) = 1#1 := congrFun h i
  rw [inf_eq] at h1
  unfold Ideal.cmp at h1
  by_contra hn
  simp [hn] at h1

section Equation

variable (m : (ℓ : Loc Cert.KernelIdeal.nD Cert.KernelIdeal.τ Cert.KernelIdeal.sig) → Buf (Elt Ideal) ℓ)
  (X : FVec Ideal Cert.ReferenceIdeal.S2048x8192 .f32) (G B : FVec Ideal Cert.ReferenceIdeal.S1x8192 .f32)
  (tx : Layout.Tiles ⟨2, ![2048, 1024]⟩ ⟨2, ![2048, 8192]⟩ 1 8) (tr : Layout.Tiles ⟨2, ![1, 1024]⟩ ⟨2, ![1, 8192]⟩ 1 8)
  (hX : ∀ c, xArr m c = Layout.block ⟨2, ![2048, 1024]⟩ ⟨2, ![2048, 8192]⟩ 1 8 c X tx)
  (hG : ∀ c, gammaArr m c = Layout.block ⟨2, ![1, 1024]⟩ ⟨2, ![1, 8192]⟩ 1 8 c G tr)
  (hB : ∀ c, betaArr m c = Layout.block ⟨2, ![1, 1024]⟩ ⟨2, ![1, 8192]⟩ 1 8 c B tr)

include hX in
/-- An element of a device's block of x, in the whole. -/
theorem x_whole (d : Fin 8) (R : Fin 2048) (k : Fin 1024) : xArr m d (ix2 R k) = X (ix2 R (colOf d k)) :=
  (congrFun (hX d) _).trans (block_x d X _ R k)

include hX in
/-- A row's sum over the eight devices is the whole row's. -/
theorem stat_sum (R : Fin 2048) : ∑ d : Fin 8, stat m d R 0 = ∑ i : Fin 8192, X (ix2 R i) := by
  rw [← sum_blocks]
  refine Finset.sum_congr rfl fun d _ => (if_pos rfl).trans (Finset.sum_congr rfl fun k _ => x_whole m X tx hX d R k)

include hX in
/-- A row's sum of squares over the eight devices is the whole row's. -/
theorem stat_squares (R : Fin 2048) : ∑ d : Fin 8, stat m d R 1 = ∑ i : Fin 8192, X (ix2 R i) * X (ix2 R i) := by
  rw [← sum_blocks (fun i => X (ix2 R i) * X (ix2 R i))]
  exact Finset.sum_congr rfl fun d _ => (if_neg (by decide)).trans (Finset.sum_congr rfl fun k _ =>
    congrArg₂ (· * ·) (x_whole m X tx hX d R k) (x_whole m X tx hX d R k))

include hX in
/-- Every element of the whole x is a real when every element of the blocks is. -/
theorem real_whole (hr : ∀ c i, ∃ r : ℝ, xArr m c i = (r : EReal)) (R : Fin 2048) (i : Fin 8192) :
    ∃ r : ℝ, X (ix2 R i) = (r : EReal) := by
  have hd : i.val / 1024 < 8 := by omega
  obtain ⟨r, h⟩ := hr ⟨i.val / 1024, hd⟩ (ix2 R ⟨i.val % 1024, Nat.mod_lt _ (by decide)⟩)
  refine ⟨r, Eq.trans ?_ h⟩
  rw [x_whole m X tx hX]
  refine congrArg (fun k => X (ix2 R k)) (Fin.ext ?_)
  show i.val = i.val / 1024 * 1024 + i.val % 1024
  omega

include hX hG hB in
/-- One element of device `c`'s block of the kernel's result, in the reference's. -/
theorem elem_out_eq (hr : ∀ c i, ∃ r : ℝ, xArr m c i = (r : EReal)) (c : Fin 8) (R : Fin 2048) (l : Fin 1024) :
    outArr m c (ix2 R l) = refArr X G B (ix2 R (colOf c l)) := by
  have hg : gammaArr m c (ix2 (0 : Fin 1) l) = G (ix2 (0 : Fin 1) (colOf c l)) := (congrFun (hG c) _).trans (block_row c G _ l)
  have hb : betaArr m c (ix2 (0 : Fin 1) l) = B (ix2 (0 : Fin 1) (colOf c l)) := (congrFun (hB c) _).trans (block_row c B _ l)
  rw [outArr_apply, refArr_apply, stat_sum m X tx hX, stat_squares m X tx hX, x_whole m X tx hX, hg, hb]
  choose r h using fun i => real_whole m X tx hX hr R i
  simp only [h]
  exact elem_eq r _ _ (colOf c l)

include hX hG hB in
/-- Device `c`'s block of the kernel's result is its block of the reference's. -/
theorem out_eq (hr : ∀ c i, ∃ r : ℝ, xArr m c i = (r : EReal)) (c : Fin 8) :
    outArr m c = Layout.block ⟨2, ![2048, 1024]⟩ ⟨2, ![2048, 8192]⟩ 1 8 c (refArr X G B) tx := by
  funext j
  rw [eq_ix2 j]
  exact (elem_out_eq m X G B tx tr hX hG hB hr c (j 0) (j 1)).trans (block_x c _ _ (j 0) (j 1)).symm

end Equation

end Cert.Value

end
-- ==== Proof.lean ====
module

public import proofs.«01_k».proof.Defs
public import proofs.«01_k».proof.Proof.KernelRun
public import proofs.«01_k».proof.Proof.KernelIdealRun
public import proofs.«01_k».proof.Proof.ValueEquation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The kernel ends with its arguments as they were and every counter at zero. -/
theorem frame_kernel : Cert.quiescent_Kernel := fun m ρ _ =>
  (θ_run Cert.Kernel.defs _ _).mono (fun _ h => ⟨fun c => ⟨(h.1 c).1, (h.1 c).2.1, (h.1 c).2.2.1⟩, h.2⟩) (Cert.KernelRun.run_main m ρ)

/-- So does its idealization. -/
theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩) (Cert.KernelIdealRun.run_main m ρ)

/-- And so does the reference, which has no semaphores. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- The operations of the finiteness condition are well formed at a block. -/
theorem facts_block : Cert.Pre_x_finite_KernelIdeal.Facts := ⟨by decide⟩
/-- They are well formed at the whole. -/
theorem facts_whole : Cert.Pre_x_finite_ReferenceIdeal.Facts := ⟨by decide⟩

/-- When every element of x is finite, the kernel's idealization ends with each device holding its block of the
    array that the reference's ends with. -/
theorem value [Cert.Pre_x_finite_KernelIdeal.Facts] :
    Cert.algebraic_KernelIdeal_ReferenceIdeal_pre_x_finite_KernelIdeal := fun m ρ m' ρ' hp hm => by
  refine ⟨_, (θ_run Cert.KernelIdeal.defs _ _).mono (fun r h c => ⟨(h.1 c).2.2.2.trans ?_, (h.1 c).1, (h.1 c).2.1, (h.1 c).2.2.1⟩)
      (Cert.KernelIdealRun.run_main m ρ),
    (θ_run Cert.ReferenceIdeal.defs _ _).mono (fun r h => h 0) (Cert.Value.reference_run m' ρ')⟩
  exact Cert.Value.out_eq m _ _ _ _ _ (fun c => (hm c).1) (fun c => (hm c).2.1) (fun c => (hm c).2.2)
    (fun c i => Cert.Value.real_of_pre _ _ _ (hp c) i) c

/-- All that is claimed. -/
theorem claim : Cert.Claim := ⟨Cert.Kernel.Gen.facts, Cert.KernelIdeal.Gen.facts, Cert.ReferenceIdeal.Gen.facts,
  facts_block, facts_whole, frame_kernel, frame_kernelIdeal, fun m ρ _ => frame_kernelIdeal m ρ trivial, frame_referenceIdeal,
  fun m ρ _ => frame_referenceIdeal m ρ trivial, trivial, @value facts_block⟩

end Cert.Proof

end
